-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_named_KernelIdeal [hPre_experts_named_KernelIdeal : Cert.Pre_experts_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_named_ReferenceIdeal [hPre_experts_named_ReferenceIdeal : Cert.Pre_experts_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_named_KernelIdeal [hKernelIdeal : Cert.KernelIdeal.Facts] [hPre_experts_named_KernelIdeal : Cert.Pre_experts_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_named_ReferenceIdeal [hReferenceIdeal : Cert.ReferenceIdeal.Facts] [hPre_experts_named_ReferenceIdeal : Cert.Pre_experts_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_named_KernelIdeal [hKernelIdeal : Cert.KernelIdeal.Facts] [hReferenceIdeal : Cert.ReferenceIdeal.Facts] [hPre_experts_named_KernelIdeal : Cert.Pre_experts_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_named_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 2]⟩ ⟨2, ![32768, 2]⟩ 0 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![128, 512, 1024]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![32768, 1024]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v68) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_named_KernelIdeal : Cert.Pre_experts_named_KernelIdeal.Facts) (hPre_experts_named_ReferenceIdeal : Cert.Pre_experts_named_ReferenceIdeal.Facts),
    quiescent_Kernel (hKernel := hKernel)
    ∧ quiescent_KernelIdeal (hKernelIdeal := hKernelIdeal)
    ∧ quiescent_KernelIdeal_pre_experts_named_KernelIdeal (hKernelIdeal := hKernelIdeal) (hPre_experts_named_KernelIdeal := hPre_experts_named_KernelIdeal)
    ∧ quiescent_ReferenceIdeal (hReferenceIdeal := hReferenceIdeal)
    ∧ quiescent_ReferenceIdeal_pre_experts_named_ReferenceIdeal (hReferenceIdeal := hReferenceIdeal) (hPre_experts_named_ReferenceIdeal := hPre_experts_named_ReferenceIdeal)
    ∧ preserves_Kernel_KernelIdeal
    ∧ algebraic_KernelIdeal_ReferenceIdeal_pre_experts_named_KernelIdeal (hKernelIdeal := hKernelIdeal) (hReferenceIdeal := hReferenceIdeal) (hPre_experts_named_KernelIdeal := hPre_experts_named_KernelIdeal)
-- ==== Pre_experts_named_KernelIdeal.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S_ : Shape := ⟨0, ![]⟩

class Facts : Prop where
  bcast_S_S1024x2 : S_.BroadcastsInDim S1024x2 (![] : Fin 0 → Fin S1024x2.rank)

variable [Facts]

def fn {F : FTy → Type} [FloatOps F] (main_arg0 : FVec F S1024x512 .f32) (main_arg1 : FVec F S512x128 .f32) (main_arg2 : IVec S1024x2 32) (main_arg3 : FVec F S4x512x1024 .f32) : IVec S1024x2 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 128#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  main_v4
-- ==== Pre_experts_named_ReferenceIdeal.lean ====
abbrev S32768x512 : Shape := ⟨2, ![32768, 512]⟩
abbrev S512x128 : Shape := ⟨2, ![512, 128]⟩
abbrev S32768x2 : Shape := ⟨2, ![32768, 2]⟩
abbrev S128x512x1024 : Shape := ⟨3, ![128, 512, 1024]⟩
abbrev S_ : Shape := ⟨0, ![]⟩

class Facts : Prop where
  bcast_S_S32768x2 : S_.BroadcastsInDim S32768x2 (![] : Fin 0 → Fin S32768x2.rank)

variable [Facts]

def fn {F : FTy → Type} [FloatOps F] (main_arg0 : FVec F S32768x512 .f32) (main_arg1 : FVec F S512x128 .f32) (main_arg2 : IVec S32768x2 32) (main_arg3 : FVec F S128x512x1024 .f32) : IVec S32768x2 1 :=
  let main_c : IVec S_ 32 := constantI S_ 32 0#32
  let main_v0 : IVec S32768x2 32 := broadcastInDim S32768x2 ![] bcast_S_S32768x2 main_c
  let main_v1 : IVec S32768x2 1 := cmpi .sge main_arg2 main_v0
  let main_c_0 : IVec S_ 32 := constantI S_ 32 128#32
  let main_v2 : IVec S32768x2 32 := broadcastInDim S32768x2 ![] bcast_S_S32768x2 main_c_0
  let main_v3 : IVec S32768x2 1 := cmpi .slt main_arg2 main_v2
  let main_v4 : IVec S32768x2 1 := andi main_v1 main_v3
  main_v4
-- ==== Kernel.lean ====
abbrev S1024x512 : Shape := ⟨2, ![1024, 512]⟩
abbrev S512x128 : Shape := ⟨2, ![512, 128]⟩
abbrev S1024x2 : Shape := ⟨2, ![1024, 2]⟩
abbrev S4x512x1024 : Shape := ⟨3, ![4, 512, 1024]⟩
abbrev S1024x1024 : Shape := ⟨2, ![1024, 1024]⟩
abbrev S2x1024x1536 : Shape := ⟨3, ![2, 1024, 1536]⟩
abbrev S2x8x1024 : Shape := ⟨3, ![2, 8, 1024]⟩
abbrev S2 : Shape := ⟨1, ![2]⟩
abbrev S_ : Shape := ⟨0, ![]⟩
abbrev S1x512x1024 : Shape := ⟨3, ![1, 512, 1024]⟩
abbrev S512x1024 : Shape := ⟨2, ![512, 1024]⟩
abbrev S1024x128 : Shape := ⟨2, ![1024, 128]⟩
abbrev S1024 : Shape := ⟨1, ![1024]⟩
abbrev S1024x1 : Shape := ⟨2, ![1024, 1]⟩
abbrev S1024x4 : Shape := ⟨2, ![1024, 4]⟩
abbrev S1024x8 : Shape := ⟨2, ![1024, 8]⟩
abbrev S8x1024 : Shape := ⟨2, ![8, 1024]⟩
abbrev S1x8x1024 : Shape := ⟨3, ![1, 8, 1024]⟩
abbrev S1x1024x512 : Shape := ⟨3, ![1, 1024, 512]⟩
abbrev S1x1024x1024 : Shape := ⟨3, ![1, 1024, 1024]⟩
abbrev S1 : Shape := ⟨1, ![1]⟩

abbrev nBuf : Space → Nat
  | .hbm => 5
  | .vmem => 9
  | .smem => 0
  | _ => 0

abbrev bufTy : (tb : Table) → Fin (tcTables nBuf tb) → BufTy
  | .hbm, ⟨0, _⟩ => ⟨S1024x512, .f32⟩
  | .hbm, ⟨1, _⟩ => ⟨S512x128, .f32⟩
  | .hbm, ⟨2, _⟩ => ⟨S1024x2, .i32⟩
  | .hbm, ⟨3, _⟩ => ⟨S4x512x1024, .f32⟩
  | .hbm, ⟨4, _⟩ => ⟨S1024x1024, .f32⟩
  | .local _ .vmem, ⟨0, _⟩ => ⟨S1024x512, .f32⟩
  | .local _ .vmem, ⟨1, _⟩ => ⟨S512x128, .f32⟩
  | .local _ .vmem, ⟨2, _⟩ => ⟨S1024x2, .i32⟩
  | .local _ .vmem, ⟨3, _⟩ => ⟨S4x512x1024, .f32⟩
  | .local _ .vmem, ⟨4, _⟩ => ⟨S1024x1024, .f32⟩
  | .local _ .vmem, ⟨5, _⟩ => ⟨S2x1024x1536, .bf16⟩
  | .local _ .vmem, ⟨6, _⟩ => ⟨S2x8x1024, .bf16⟩
  | .local _ .vmem, ⟨7, _⟩ => ⟨S4x512x1024, .bf16⟩
  | .local _ .vmem, ⟨8, _⟩ => ⟨S1024x1024, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 3 17 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 2

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_21 : BitVec 32 := 1#32
  let v31 : BitVec 32 := Scalar.muli v14 c1_i32_21
  let v32 : BitVec 32 := Scalar.addi c0_i32_22 v31
  v32.toNat
def k0_dev4 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_24 : BitVec 32 := 1#32
  let v33 : BitVec 32 := Scalar.muli v14 c1_i32_24
  let v34 : BitVec 32 := Scalar.addi c0_i32_25 v33
  v34.toNat
@[reducible] def k0_t1_loop : Scf.Loop 32 :=
  let c0_i32_94 : BitVec 32 := 0#32
  let c16_i32 : BitVec 32 := 16#32
  let v203 : BitVec 32 := Scalar.addi c0_i32_94 c16_i32
  let c1_i32_95 : BitVec 32 := 1#32
  ⟨c0_i32_94, v203, c1_i32_95⟩
def k0_cond1 (k0_t1 : Fin k0_t1_loop.trips) : BitVec 1 :=
  let c2_i32_138 : BitVec 32 := 2#32
  let c0_i32_94 : BitVec 32 := 0#32
  let c1_i32_95 : BitVec 32 := 1#32
  let arg17 : BitVec 32 := Scf.iv c0_i32_94 c1_i32_95 k0_t1
  let v234 : BitVec 32 := Scalar.muli c2_i32_138 arg17
  let c1_i32_139 : BitVec 32 := 1#32
  let v235 : BitVec 1 := Scalar.cmpi .sge v234 c1_i32_139
  let v236 : BitVec 32 := Scalar.extui v235
  let c0_i32_140 : BitVec 32 := 0#32
  let v237 : BitVec 1 := Scalar.cmpi .ne v236 c0_i32_140
  v237

def k0_dev5 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_283 : BitVec 32 := 1#32
  let v365 : BitVec 32 := Scalar.muli v14 c1_i32_283
  let v366 : BitVec 32 := Scalar.addi c0_i32_284 v365
  v366.toNat
def k0_cond2 (k0_t1 : Fin k0_t1_loop.trips) : BitVec 1 :=
  let c2_i32_138 : BitVec 32 := 2#32
  let c0_i32_94 : BitVec 32 := 0#32
  let c1_i32_95 : BitVec 32 := 1#32
  let arg17 : BitVec 32 := Scf.iv c0_i32_94 c1_i32_95 k0_t1
  let v234 : BitVec 32 := Scalar.muli c2_i32_138 arg17
  let c1_i32_141 : BitVec 32 := 1#32
  let v238 : BitVec 1 := Scalar.cmpi .sge v234 c1_i32_141
  let v239 : BitVec 32 := Scalar.extui v238
  let c0_i32_142 : BitVec 32 := 0#32
  let v240 : BitVec 1 := Scalar.cmpi .ne v239 c0_i32_142
  v240

def k0_dev6 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_274 : BitVec 32 := 1#32
  let v359 : BitVec 32 := Scalar.muli v14 c1_i32_274
  let v360 : BitVec 32 := Scalar.addi c0_i32_275 v359
  v360.toNat
def k0_dev7 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_149 : BitVec 32 := 1#32
  let v241 : BitVec 32 := Scalar.muli v25 c1_i32_149
  let v242 : BitVec 32 := Scalar.addi c0_i32_150 v241
  v242.toNat
def k0_dev8 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_159 : BitVec 32 := 1#32
  let v251 : BitVec 32 := Scalar.muli v25 c1_i32_159
  let v252 : BitVec 32 := Scalar.addi c0_i32_160 v251
  v252.toNat
def k0_dev9 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_173 : BitVec 32 := 1#32
  let v264 : BitVec 32 := Scalar.muli v25 c1_i32_173
  let v265 : BitVec 32 := Scalar.addi c0_i32_174 v264
  v265.toNat
def k0_cond5 (k0_t1 : Fin k0_t1_loop.trips) : BitVec 1 :=
  let c2_i32_200 : BitVec 32 := 2#32
  let c0_i32_94 : BitVec 32 := 0#32
  let c1_i32_95 : BitVec 32 := 1#32
  let arg17 : BitVec 32 := Scf.iv c0_i32_94 c1_i32_95 k0_t1
  let v293 : BitVec 32 := Scalar.muli c2_i32_200 arg17
  let c1_i32_201 : BitVec 32 := 1#32
  let v294 : BitVec 32 := Scalar.addi v293 c1_i32_201
  let c1_i32_202 : BitVec 32 := 1#32
  let v295 : BitVec 1 := Scalar.cmpi .sge v294 c1_i32_202
  let v296 : BitVec 32 := Scalar.extui v295
  let c0_i32_203 : BitVec 32 := 0#32
  let v297 : BitVec 1 := Scalar.cmpi .ne v296 c0_i32_203
  v297

def k0_dev10 (d0 : Dev nD) : Nat :=
  let c0_i32_284 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_283 : BitVec 32 := 1#32
  let v365 : BitVec 32 := Scalar.muli v14 c1_i32_283
  let v366 : BitVec 32 := Scalar.addi c0_i32_284 v365
  v366.toNat
def k0_cond6 (k0_t1 : Fin k0_t1_loop.trips) : BitVec 1 :=
  let c2_i32_200 : BitVec 32 := 2#32
  let c0_i32_94 : BitVec 32 := 0#32
  let c1_i32_95 : BitVec 32 := 1#32
  let arg17 : BitVec 32 := Scf.iv c0_i32_94 c1_i32_95 k0_t1
  let v293 : BitVec 32 := Scalar.muli c2_i32_200 arg17
  let c1_i32_201 : BitVec 32 := 1#32
  let v294 : BitVec 32 := Scalar.addi v293 c1_i32_201
  let c1_i32_204 : BitVec 32 := 1#32
  let v298 : BitVec 1 := Scalar.cmpi .sge v294 c1_i32_204
  let v299 : BitVec 32 := Scalar.extui v298
  let c0_i32_205 : BitVec 32 := 0#32
  let v300 : BitVec 1 := Scalar.cmpi .ne v299 c0_i32_205
  v300

def k0_dev11 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let c0_i32 : BitVec 32 := 0#32
  let v5 : BitVec 1 := Scalar.cmpi .eq c32_i32_2 c0_i32
  let c1_i32_3 : BitVec 32 := 1#32
  let v6 : BitVec 32 := Scalar.select v5 c1_i32_3 c32_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_274 : BitVec 32 := 1#32
  let v359 : BitVec 32 := Scalar.muli v14 c1_i32_274
  let v360 : BitVec 32 := Scalar.addi c0_i32_275 v359
  v360.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_212 : BitVec 32 := 1#32
  let v301 : BitVec 32 := Scalar.muli v25 c1_i32_212
  let v302 : BitVec 32 := Scalar.addi c0_i32_213 v301
  v302.toNat
def k0_dev13 (d0 : Dev nD) : Nat :=
  let c0_i32_223 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_222 : BitVec 32 := 1#32
  let v311 : BitVec 32 := Scalar.muli v25 c1_i32_222
  let v312 : BitVec 32 := Scalar.addi c0_i32_223 v311
  v312.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_7 : BitVec 32 := 1#32
  let v15 : BitVec 32 := Scalar.addi v2 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_236 : BitVec 32 := 1#32
  let v324 : BitVec 32 := Scalar.muli v25 c1_i32_236
  let v325 : BitVec 32 := Scalar.addi c0_i32_237 v324
  v325.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S32768x512 : Shape := ⟨2, ![32768, 512]⟩
abbrev S512x128 : Shape := ⟨2, ![512, 128]⟩
abbrev S32768x2 : Shape := ⟨2, ![32768, 2]⟩
abbrev S128x512x1024 : Shape := ⟨3, ![128, 512, 1024]⟩
abbrev S32768x128 : Shape := ⟨2, ![32768, 128]⟩
abbrev S_ : Shape := ⟨0, ![]⟩
abbrev S32768 : Shape := ⟨1, ![32768]⟩
abbrev S32768x1 : Shape := ⟨2, ![32768, 1]⟩
abbrev S32768x512x1024 : Shape := ⟨3, ![32768, 512, 1024]⟩
abbrev S32768x1024 : Shape := ⟨2, ![32768, 1024]⟩

abbrev nBuf : Space → Nat
  | .hbm => 87
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S512x128, .f32⟩
  | .hbm, ⟨2, _⟩ => ⟨S32768x2, .i32⟩
  | .hbm, ⟨3, _⟩ => ⟨S128x512x1024, .f32⟩
  | .hbm, ⟨4, _⟩ => ⟨S32768x128, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S32768x128, .f32⟩
  | .hbm, ⟨9, _⟩ => ⟨S32768x128, .f32⟩
  | .hbm, ⟨10, _⟩ => ⟨S32768x128, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S32768x128, .f32⟩
  | .hbm, ⟨15, _⟩ => ⟨S32768x128, .f32⟩
  | .hbm, ⟨16, _⟩ => ⟨S32768x1, .i32⟩
  | .hbm, ⟨17, _⟩ => ⟨S32768, .i32⟩
  | .hbm, ⟨18, _⟩ => ⟨S32768x1, .i32⟩
  | .hbm, ⟨19, _⟩ => ⟨S32768, .i32⟩
  | .hbm, ⟨20, _⟩ => ⟨S32768, .i32⟩
  | .hbm, ⟨21, _⟩ => ⟨S_, .i32⟩
  | .hbm, ⟨22, _⟩ => ⟨S32768, .i32⟩
  | .hbm, ⟨23, _⟩ => ⟨S32768, .i1⟩
  | .hbm, ⟨24, _⟩ => ⟨S_, .i32⟩
  | .hbm, ⟨25, _⟩ => ⟨S32768, .i32⟩
  | .hbm, ⟨26, _⟩ => ⟨S32768, .i32⟩
  | .hbm, ⟨27, _⟩ => ⟨S32768, .i32⟩
  | .hbm, ⟨28, _⟩ => ⟨S_, .i32⟩
  | .hbm, ⟨29, _⟩ => ⟨S32768, .i32⟩
  | .hbm, ⟨30, _⟩ => ⟨S32768, .i1⟩
  | .hbm, ⟨31, _⟩ => ⟨S_, .i32⟩
  | .hbm, ⟨32, _⟩ => ⟨S32768, .i32⟩
  | .hbm, ⟨33, _⟩ => ⟨S32768, .i32⟩
  | .hbm, ⟨34, _⟩ => ⟨S32768, .i32⟩
  | .hbm, ⟨35, _⟩ => ⟨S32768x1, .i32⟩
  | .hbm, ⟨36, _⟩ => ⟨S32768x1, .i32⟩
  | .hbm, ⟨37, _⟩ => ⟨S32768x2, .i32⟩
  | .hbm, ⟨38, _⟩ => ⟨S32768, .f32⟩
  | .hbm, ⟨39, _⟩ => ⟨S_, .i32⟩
  | .hbm, ⟨40, _⟩ => ⟨S32768, .i32⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S_, .i32⟩
  | .hbm, ⟨47, _⟩ => ⟨S32768, .i32⟩
  | .hbm, ⟨48, _⟩ => ⟨S32768, .i1⟩
  | .hbm, ⟨49, _⟩ => ⟨S_, .i32⟩
  | .hbm, ⟨50, _⟩ => ⟨S32768, .i32⟩
  | .hbm, ⟨51, _⟩ => ⟨S32768, .i32⟩
  | .hbm, ⟨52, _⟩ => ⟨S32768, .i32⟩
  | .hbm, ⟨53, _⟩ => ⟨S32768x1, .i32⟩
  | .hbm, ⟨54, _⟩ => ⟨S32768x1, .i32⟩
  | .hbm, ⟨55, _⟩ => ⟨S32768x2, .i32⟩
  | .hbm, ⟨56, _⟩ => ⟨S32768, .f32⟩
  | .hbm, ⟨57, _⟩ => ⟨S32768, .f32⟩
  | .hbm, ⟨58, _⟩ => ⟨S_, .i32⟩
  | .hbm, ⟨59, _⟩ => ⟨S32768, .i32⟩
  | .hbm, ⟨60, _⟩ => ⟨S32768, .i1⟩
  | .hbm, ⟨61, _⟩ => ⟨S_, .i32⟩
  | .hbm, ⟨62, _⟩ => ⟨S32768, .i32⟩
  | .hbm, ⟨63, _⟩ => ⟨S32768, .i32⟩
  | .hbm, ⟨64, _⟩ => ⟨S32768, .i32⟩
  | .hbm, ⟨65, _⟩ => ⟨S32768x1, .i32⟩
  | .hbm, ⟨66, _⟩ => ⟨S32768x512x1024, .f32⟩
  | .hbm, ⟨67, _⟩ => ⟨S32768x1024, .f32⟩
  | .hbm, ⟨68, _⟩ => ⟨S_, .i32⟩
  | .hbm, ⟨69, _⟩ => ⟨S32768, .i32⟩
  | .hbm, ⟨70, _⟩ => ⟨S32768, .i1⟩
  | .hbm, ⟨71, _⟩ => ⟨S_, .i32⟩
  | .hbm, ⟨72, _⟩ => ⟨S32768, .i32⟩
  | .hbm, ⟨73, _⟩ => ⟨S32768, .i32⟩
  | .hbm, ⟨74, _⟩ => ⟨S32768, .i32⟩
  | .hbm, ⟨75, _⟩ => ⟨S32768x1, .i32⟩
  | .hbm, ⟨76, _⟩ => ⟨S32768x512x1024, .f32⟩
  | .hbm, ⟨77, _⟩ => ⟨S32768x1024, .f32⟩
  | .hbm, ⟨78, _⟩ => ⟨S32768, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S32768, .f32⟩
  | .hbm, ⟨83, _⟩ => ⟨S32768x1, .f32⟩
  | .hbm, ⟨84, _⟩ => ⟨S32768x1024, .f32⟩
  | .hbm, ⟨85, _⟩ => ⟨S32768x1024, .f32⟩
  | .hbm, ⟨86, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_2 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_c_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_8 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_c_11 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Proof.Ideal.Ring.lean ====
/-
The ring protocol of the kernel: semaphore cells, who pays them, and what each payment hands over.

Device `c` exchanges with `nxt c` and `prv c` on a ring of 32. In hop `h = 2 n + s` it sends slot `s` of three scratch
regions (tokens, gate records, accumulator) into slot `1 - s` of `nxt c`. A slot is named by a `Bool`: `false` is
slot 0. Round `n` of a slot's cells belongs to the hop that uses that slot for the `n`-th time.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic
public import Mathlib.Tactic.DeriveFintype
public import Mathlib.Algebra.BigOperators.Intervals

@[expose] public section

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The algebra: staging rounds, the ring's rounds, the released slots -/

abbrev UB : Type := URounds (GSem nD τ sig) ℕ
abbrev UK : Type := USlots (Dev nD × Bool)
abbrev UU : Type := UR sig nD τ × (UB × UK)

local notation "𝕄" => MT nD τ sig ℕ (Elt F) ℕ UU ℕ

abbrev EP : Emb (UR sig nD τ) (MT nD τ sig ℕ (Elt F) ℕ UU ℕ) := embL
abbrev EX : Emb (UB × UK) (MT nD τ sig ℕ (Elt F) ℕ UU ℕ) := embR
abbrev ER : Emb UB (MT nD τ sig ℕ (Elt F) ℕ UU ℕ) := Emb.inl.trans EX
abbrev ES : Emb UK (MT nD τ sig ℕ (Elt F) ℕ UU ℕ) := Emb.inr.trans EX

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide
def ring : Dev nD ≃ Dev nD := ⟨nxt, prv, prv_nxt, nxt_prv⟩

/-- The device `h` places before `c`. -/
def back (c : Dev nD) : ℕ → Dev nD
  | 0 => c
  | h + 1 => back (prv c) h

theorem back_succ (c : Dev nD) (h : ℕ) : back c (h + 1) = back (prv c) h := rfl

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = prv c := by revert c; decide
theorem dev4_eq (c : Dev nD) : (⟨k0_dev4 c, k0_dev4_lt c⟩ : Dev nD) = prv c := by revert c; decide
theorem dev5_val (c : Dev nD) : k0_dev5 c = (prv c).val := by revert c; decide
theorem dev6_val (c : Dev nD) : k0_dev6 c = (prv c).val := by revert c; decide
theorem dev7_eq (c : Dev nD) : (⟨k0_dev7 c, k0_dev7_lt c⟩ : Dev nD) = nxt c := by revert c; decide
theorem dev8_eq (c : Dev nD) : (⟨k0_dev8 c, k0_dev8_lt c⟩ : Dev nD) = nxt c := by revert c; decide
theorem dev9_eq (c : Dev nD) : (⟨k0_dev9 c, k0_dev9_lt c⟩ : Dev nD) = nxt c := by revert c; decide
theorem dev10_val (c : Dev nD) : k0_dev10 c = (prv c).val := by revert c; decide
theorem dev11_val (c : Dev nD) : k0_dev11 c = (prv c).val := by revert c; decide
theorem dev12_eq (c : Dev nD) : (⟨k0_dev12 c, k0_dev12_lt c⟩ : Dev nD) = nxt c := by revert c; decide
theorem dev13_eq (c : Dev nD) : (⟨k0_dev13 c, k0_dev13_lt c⟩ : Dev nD) = nxt c := by revert c; decide
theorem dev14_eq (c : Dev nD) : (⟨k0_dev14 c, k0_dev14_lt c⟩ : Dev nD) = nxt c := by revert c; decide

/-! ## Memrefs and cells -/

abbrev xM : Memref sig .tc .vmem S1024x512 .f32 := Memref.whole cc0_stg0_0
abbrev rwM : Memref sig .tc .vmem S512x128 .f32 := Memref.whole cc0_stg1_0
abbrev ixM : Memref sig .tc .vmem S1024x2 .i32 := Memref.whole cc0_stg2_0
abbrev ewM : Memref sig .tc .vmem S4x512x1024 .f32 := Memref.whole cc0_stg3_0
abbrev oM : Memref sig .tc .vmem S1024x1024 .f32 := Memref.whole cc0_stg4_0
abbrev pkM : Memref sig .tc .vmem S2x1024x1536 .bf16 := Memref.whole cc0_scratch0
abbrev mtM : Memref sig .tc .vmem S2x8x1024 .bf16 := Memref.whole cc0_scratch1
abbrev wbM : Memref sig .tc .vmem S4x512x1024 .bf16 := Memref.whole cc0_scratch2
abbrev ctM : Memref sig .tc .vmem S1024x1024 .f32 := Memref.whole cc0_scratch3

/-- The tokens' half of the packed scratch, one slot. -/
abbrev xgR : Bool → Rect S2x1024x1536
  | false => Rect.unit (s := S2x1024x1536) ![0, 0, 0] S1x1024x512.size inb_S2x1024x1536_S1x1024x512_0_0_0
  | true => Rect.unit (s := S2x1024x1536) ![1, 0, 0] S1x1024x512.size inb_S2x1024x1536_S1x1024x512_1_0_0
abbrev xgM : Bool → Memref sig .tc .vmem S1x1024x512 .bf16
  | false => pkM.slice (Rect.unit (s := S2x1024x1536) ![0, 0, 0] S1x1024x512.size inb_S2x1024x1536_S1x1024x512_0_0_0) (fun _ => rfl)
  | true => pkM.slice (Rect.unit (s := S2x1024x1536) ![1, 0, 0] S1x1024x512.size inb_S2x1024x1536_S1x1024x512_1_0_0) (fun _ => rfl)
abbrev xqM (s : Bool) : Memref sig .tc .vmem S1024x512 .bf16 := (xgM s).squeeze S1024x512 squeezes_S1x1024x512_S1024x512
/-- The accumulator's half of the packed scratch, one slot. -/
abbrev acM : Bool → Memref sig .tc .vmem S1x1024x1024 .bf16
  | false => pkM.slice (Rect.unit (s := S2x1024x1536) ![0, 0, 512] S1x1024x1024.size inb_S2x1024x1536_S1x1024x1024_0_0_512) (fun _ => rfl)
  | true => pkM.slice (Rect.unit (s := S2x1024x1536) ![1, 0, 512] S1x1024x1024.size inb_S2x1024x1536_S1x1024x1024_1_0_512) (fun _ => rfl)
abbrev aqM (s : Bool) : Memref sig .tc .vmem S1024x1024 .bf16 := (acM s).squeeze S1024x1024 squeezes_S1x1024x1024_S1024x1024
/-- One slot of the gate records. -/
abbrev meM : Bool → Memref sig .tc .vmem S1x8x1024 .bf16
  | false => mtM.slice (Rect.unit (s := S2x8x1024) ![0, 0, 0] S1x8x1024.size inb_S2x8x1024_S1x8x1024_0_0_0) (fun _ => rfl)
  | true => mtM.slice (Rect.unit (s := S2x8x1024) ![1, 0, 0] S1x8x1024.size inb_S2x8x1024_S1x8x1024_1_0_0) (fun _ => rfl)
abbrev mqM (s : Bool) : Memref sig .tc .vmem S8x1024 .bf16 := (meM s).squeeze S8x1024 squeezes_S1x8x1024_S8x1024

abbrev barS : Sem sig := (SemArray.scalar (sig.barrier 0 rfl) : Sems sig S_).sem
/-- Slot `s` of a two-slot array of DMA semaphores. -/
abbrev at2 (a : DmaSems sig S2) : Bool → DmaSem sig
  | false => ((a.slice (Rect.unit (s := S2) ![0] S1.size inb_S2_S1_0)).squeeze S_ squeezes_S1_S_).sem
  | true => ((a.slice (Rect.unit (s := S2) ![1] S1.size inb_S2_S1_1)).squeeze S_ squeezes_S1_S_).sem

/-- The kernel's semaphores by their role: the barrier, the two credits, and per slot the send and receive cells of the
    tokens (`xs`, `xr`), the gate records (`ms`, `mr`) and the accumulator (`as`, `ar`). -/
inductive CK where
  | bar | xc | ac
  | xs (s : Bool) | xr (s : Bool) | ms (s : Bool) | mr (s : Bool) | as (s : Bool) | ar (s : Bool)
  deriving DecidableEq, Fintype

abbrev csem : CK → SemLoc sig
  | .bar => .reg barS
  | .xc => .reg (cc0_scratch10 : Sems sig S_).sem
  | .ac => .reg (cc0_scratch11 : Sems sig S_).sem
  | .xs s => .dma (at2 cc0_scratch4 s)
  | .xr s => .dma (at2 cc0_scratch5 s)
  | .ms s => .dma (at2 cc0_scratch6 s)
  | .mr s => .dma (at2 cc0_scratch7 s)
  | .as s => .dma (at2 cc0_scratch8 s)
  | .ar s => .dma (at2 cc0_scratch9 s)

theorem csem_inj : Function.Injective csem := by decide

abbrev cell (c : Dev nD) (k : CK) : GSem nD τ sig := ((c : Thread nD τ), csem k)

open Classical in
/-- The role of a semaphore, if it is the kernel's. -/
def kind (sm : SemLoc sig) : Option CK := if h : ∃ k, csem k = sm then some h.choose else none

theorem kind_csem (k : CK) : kind (csem k) = some k := by
  have h : ∃ k', csem k' = csem k := ⟨k, rfl⟩
  unfold kind
  rw [dif_pos h, csem_inj h.choose_spec]

@[irreducible] def Nx : ℕ := (xqM false).view.dmaCredit
@[irreducible] def Nm : ℕ := (mqM false).view.dmaCredit
@[irreducible] def Na : ℕ := (aqM false).view.dmaCredit
theorem Nx_pos : 0 < Nx := by unfold Nx; exact View.dmaCredit_pos _ (by decide)
theorem Nm_pos : 0 < Nm := by unfold Nm; exact View.dmaCredit_pos _ (by decide)
theorem Na_pos : 0 < Na := by unfold Na; exact View.dmaCredit_pos _ (by decide)

/-! ## Contents -/

variable (m : (ℓ : Loc nD τ sig) → Buf (Elt F) ℓ)

/-- The four inputs as the pipeline stages them on device `c`. -/
def xIn (c : Dev nD) : (cc0_stg0_0 : Ref sig .tc).ty.Contents (Elt F) := (win0_0.blk (0 : Fin 1)).view.read (Elt F) (m ((c : Thread nD τ).loc main_arg0))
def rwIn (c : Dev nD) : (cc0_stg1_0 : Ref sig .tc).ty.Contents (Elt F) := (win0_1.blk (0 : Fin 1)).view.read (Elt F) (m ((c : Thread nD τ).loc main_arg1))
def ixIn (c : Dev nD) : (cc0_stg2_0 : Ref sig .tc).ty.Contents (Elt F) := (win0_2.blk (0 : Fin 1)).view.read (Elt F) (m ((c : Thread nD τ).loc main_arg2))
def ewIn (c : Dev nD) : (cc0_stg3_0 : Ref sig .tc).ty.Contents (Elt F) := (win0_3.blk (0 : Fin 1)).view.read (Elt F) (m ((c : Thread nD τ).loc main_arg3))

def vx (c : Dev nD) : Vec F S1024x512 .f32 := xM.view.readAt (Elt F) (Rect.unit (s := S1024x512) ![0, 0] S1024x512.size inb_S1024x512_S1024x512_0_0).toLoadRect (xIn m c)
def vrw (c : Dev nD) : Vec F S512x128 .f32 := rwM.view.readAt (Elt F) (Rect.unit (s := S512x128) ![0, 0] S512x128.size inb_S512x128_S512x128_0_0).toLoadRect (rwIn m c)
def vi0 (c : Dev nD) : Vec F S1024x1 .i32 := ixM.view.readAt (Elt F) (Rect.unit (s := S1024x2) ![0, 0] S1024x1.size inb_S1024x2_S1024x1_0_0).toLoadRect (ixIn m c)
def vi1 (c : Dev nD) : Vec F S1024x1 .i32 := ixM.view.readAt (Elt F) (Rect.unit (s := S1024x2) ![0, 1] S1024x1.size inb_S1024x2_S1024x1_0_1).toLoadRect (ixIn m c)
def vw0 (c : Dev nD) : Vec F S1x512x1024 .f32 := ewM.view.readAt (Elt F) (Rect.unit (s := S4x512x1024) ![0, 0, 0] S1x512x1024.size inb_S4x512x1024_S1x512x1024_0_0_0).toLoadRect (ewIn m c)
def vw1 (c : Dev nD) : Vec F S1x512x1024 .f32 := ewM.view.readAt (Elt F) (Rect.unit (s := S4x512x1024) ![1, 0, 0] S1x512x1024.size inb_S4x512x1024_S1x512x1024_1_0_0).toLoadRect (ewIn m c)
def vw2 (c : Dev nD) : Vec F S1x512x1024 .f32 := ewM.view.readAt (Elt F) (Rect.unit (s := S4x512x1024) ![2, 0, 0] S1x512x1024.size inb_S4x512x1024_S1x512x1024_2_0_0).toLoadRect (ewIn m c)
def vw3 (c : Dev nD) : Vec F S1x512x1024 .f32 := ewM.view.readAt (Elt F) (Rect.unit (s := S4x512x1024) ![3, 0, 0] S1x512x1024.size inb_S4x512x1024_S1x512x1024_3_0_0).toLoadRect (ewIn m c)

/-- Device `c`'s four expert weights, narrowed. -/
def eb0 (c : Dev nD) : FVec F S1x512x1024 .bf16 := k0_pay27 (vw0 m c)
def eb1 (c : Dev nD) : FVec F S1x512x1024 .bf16 := k0_pay28 (vw1 m c)
def eb2 (c : Dev nD) : FVec F S1x512x1024 .bf16 := k0_pay29 (vw2 m c)
def eb3 (c : Dev nD) : FVec F S1x512x1024 .bf16 := k0_pay31 (k0_pay30 (vw3 m c))

/-- The two normalised gates of device `c`'s tokens, and its first expert index as a number. -/
def ga (c : Dev nD) : FVec F S1024x1 .f32 := k0_pay37 (vx m c) (vrw m c) (vi0 m c) (vi1 m c)
def gb (c : Dev nD) : FVec F S1024x1 .f32 := k0_pay38 (vx m c) (vrw m c) (vi0 m c) (vi1 m c)
def ia (c : Dev nD) : FVec F S1024x1 .f32 := k0_pay39 (vi0 m c)

/-- The word in which device `c` holds its own place. -/
def wd (c : Dev nD) : BitVec 32 := Scalar.remsi (Scalar.divsi (Dev.word c) 1#32) 32#32

/-- Device `c`'s tokens and gate records as they travel. -/
def X (c : Dev nD) : FVec F S1x1024x512 .bf16 := k0_pay43 (k0_pay32 (vx m c))
def Mt (c : Dev nD) : FVec F S1x8x1024 .bf16 := k0_pay41 (ga m c) (gb m c) (ia m c) (vi1 m c)

/-- What a device with experts `w0 … w3`, at place `v2`, adds for tokens `x` with gate records `mt`. -/
def ctrOf (v2 : BitVec 32) (x : Vec F S1x1024x512 .bf16) (mt : Vec F S1x8x1024 .bf16) (w0 w1 w2 w3 : Vec F S1x512x1024 .bf16) : FVec F S1024x1024 .f32 :=
  k0_pay25 (k0_pay10 v2 (k0_pay2 x) (k0_pay4 mt) (k0_pay5 mt) (k0_pay6 mt) (k0_pay7 mt) (k0_pay8 v2 x mt w0) (k0_pay9 v2 mt) w1 w2)
    (k0_pay11 (k0_pay2 x) w3) (k0_pay12 v2 (k0_pay4 mt) (k0_pay5 mt) (k0_pay6 mt) (k0_pay7 mt))

/-- Device `c`'s own share for its own tokens. -/
def A0 (c : Dev nD) : FVec F S1x1024x1024 .bf16 :=
  k0_pay54 (k0_pay42 (k0_pay32 (vx m c))) (k0_pay46 (ga m c) (gb m c) (ia m c) (vi1 m c)) (k0_pay48 (ga m c) (gb m c) (ia m c) (vi1 m c))
    (k0_pay50 (wd c) (k0_pay42 (k0_pay32 (vx m c))) (k0_pay45 (ga m c) (gb m c) (ia m c) (vi1 m c)) (k0_pay46 (ga m c) (gb m c) (ia m c) (vi1 m c))
      (k0_pay47 (ga m c) (gb m c) (ia m c) (vi1 m c)) (k0_pay48 (ga m c) (gb m c) (ia m c) (vi1 m c))
      (k0_pay49 (wd c) (k0_pay32 (vx m c)) (ga m c) (gb m c) (ia m c) (vi1 m c) (eb0 m c)) (Scalar.muli (wd c) 4#32) 1#32 (eb1 m c) (eb2 m c))
    (k0_pay52 (wd c) (k0_pay45 (ga m c) (gb m c) (ia m c) (vi1 m c)) (k0_pay47 (ga m c) (gb m c) (ia m c) (vi1 m c))) (k0_pay53 (wd c)) (eb3 m c)

/-- Device `c`'s share for the tokens it holds after hop `h - 1`: those of the device `h` places before it. -/
def Ctr (c : Dev nD) (h : ℕ) : FVec F S1024x1024 .f32 := ctrOf (wd c) (X m (back c h)) (Mt m (back c h)) (eb0 m c) (eb1 m c) (eb2 m c) (eb3 m c)

/-- The accumulator device `c` sends in hop `h`. -/
def A : ℕ → Dev nD → FVec F S1x1024x1024 .bf16
  | 0, c => A0 m c
  | h + 1, c => k0_pay24 (A h (prv c)) (Ctr m c (h + 1))

/-- The result on device `c`. -/
def outAt (c : Dev nD) : (cc0_stg4_0 : Ref sig .tc).ty.Contents (Elt F) := k0_pay1 (A m 31 (prv c))

/-! ## The schedule -/

/-- Hop `h` sends slot `sl h` into slot `!sl h` of the next device. -/
def sl (h : ℕ) : Bool := decide (h % 2 = 1)

def slotX (c : Dev nD) (s : Bool) : sProp 𝕄 := slot ((xgM s).view.loc (c : Thread nD τ)) (xgM s).view.set
def slotM (c : Dev nD) (s : Bool) : sProp 𝕄 := slot ((meM s).view.loc (c : Thread nD τ)) (meM s).view.set
def slotA (c : Dev nD) (s : Bool) : sProp 𝕄 := slot ((acM s).view.loc (c : Thread nD τ)) (acM s).view.set

def ownX (c : Dev nD) (s : Bool) (V : FVec F S1x1024x512 .bf16) : sProp 𝕄 := owns (c : Thread nD τ) (xgM s) fullShare V
def ownM (c : Dev nD) (s : Bool) (V : FVec F S1x8x1024 .bf16) : sProp 𝕄 := owns (c : Thread nD τ) (meM s) fullShare V
def ownA (c : Dev nD) (s : Bool) (V : FVec F S1x1024x1024 .bf16) : sProp 𝕄 := owns (c : Thread nD τ) (acM s) fullShare V

instance slotX_storable (c : Dev nD) (s : Bool) : BI.Storable (upEmb : UEmb _ 𝕄) (slotX (F := F) c s) := by unfold slotX; infer_instance
instance slotM_storable (c : Dev nD) (s : Bool) : BI.Storable (upEmb : UEmb _ 𝕄) (slotM (F := F) c s) := by unfold slotM; infer_instance
instance slotA_storable (c : Dev nD) (s : Bool) : BI.Storable (upEmb : UEmb _ 𝕄) (slotA (F := F) c s) := by unfold slotA; infer_instance
instance ownX_storable (c : Dev nD) (s : Bool) (V) : BI.Storable (upEmb : UEmb _ 𝕄) (ownX (F := F) c s V) := by unfold ownX; infer_instance
instance ownM_storable (c : Dev nD) (s : Bool) (V) : BI.Storable (upEmb : UEmb _ 𝕄) (ownM (F := F) c s V) := by unfold ownM; infer_instance
instance ownA_storable (c : Dev nD) (s : Bool) (V) : BI.Storable (upEmb : UEmb _ 𝕄) (ownA (F := F) c s V) := by unfold ownA; infer_instance

/-- What credit `j` of device `e`'s accumulator tells: the slot hop `j` writes is released for that write, and `e` has
    reached the round in which the write lands. -/
def accFact (e : Dev nD) (j : ℕ) : sProp 𝕄 := iprop(released ES (e, !sl j) (j / 2 + 1) ∗ reached ER (cell e (.ar (!sl j))) (j / 2))
instance accFact_persistent (e : Dev nD) (j : ℕ) : BI.Persistent (accFact (F := F) e j) := by unfold accFact; infer_instance
instance accFact_storable (e : Dev nD) (j : ℕ) : BI.Storable (upEmb : UEmb _ 𝕄) (accFact (F := F) e j) := by unfold accFact; infer_instance

/-- The credit for hop `h`'s tokens and records: both slots of the next device that the hop writes, and its rounds. -/
def creditPay (c : Dev nD) (h : ℕ) : sProp 𝕄 :=
  iprop(slotX (nxt c) (!sl h) ∗ slotM (nxt c) (!sl h) ∗ reached ER (cell (nxt c) (.xr (!sl h))) (h / 2) ∗ reached ER (cell (nxt c) (.mr (!sl h))) (h / 2))
instance creditPay_storable (c : Dev nD) (h : ℕ) : BI.Storable (upEmb : UEmb _ 𝕄) (creditPay (F := F) c h) := by unfold creditPay; infer_instance

def payK (c : Dev nD) : CK → ℕ → ℕ → sProp 𝕄
  | .bar, _, _ => iprop(emp)
  | .xc, r, _ => creditPay c r
  | .ac, _, d => heard (accFact (nxt c)) (Finset.range (d + 1))
  | .xs s, r, _ => ownX c s (X m (back c (2 * r + s.toNat)))
  | .ms s, r, _ => ownM c s (Mt m (back c (2 * r + s.toNat)))
  | .as s, r, _ => ownA c s (A m (2 * r + s.toNat) c)
  | .xr t, r, _ => iprop(ownX c t (X m (back c (2 * r + (!t).toNat + 1))) ∗ reached ER (cell (prv c) .xc) (2 * r + (!t).toNat + 1))
  | .mr t, r, _ => ownM c t (Mt m (back c (2 * r + (!t).toNat + 1)))
  | .ar t, r, _ => ownA c t (A m (2 * r + (!t).toNat) (prv c))
instance payK_storable (c : Dev nD) (k : CK) (r d : ℕ) : BI.Storable (upEmb : UEmb _ 𝕄) (payK m c k r d) := by
  cases k <;> (unfold payK; dsimp only; infer_instance)

def dutK : CK → ℕ → Finset ℕ
  | .bar, r => if r = 0 then {0, 1} else ∅
  | .xc, r => if r < 32 then {0} else ∅
  | .ac, r => if r = 0 then Finset.range 32 else ∅
  | _, r => if r < 16 then {0} else ∅

def amtK : CK → ℕ
  | .bar => 1 | .xc => 1 | .ac => 1
  | .xs _ => Nx | .xr _ => Nx | .ms _ => Nm | .mr _ => Nm | .as _ => Na | .ar _ => Na
theorem amtK_pos (k : CK) : 0 < amtK k := by
  match k with
  | .bar => exact Nat.one_pos
  | .xc => exact Nat.one_pos
  | .ac => exact Nat.one_pos
  | .xs _ => exact Nx_pos
  | .xr _ => exact Nx_pos
  | .ms _ => exact Nm_pos
  | .mr _ => exact Nm_pos
  | .as _ => exact Na_pos
  | .ar _ => exact Na_pos

def Rd : Rounds.Schedule (GSem nD τ sig) ℕ 𝕄 where
  duties g r := if g.1.2 = .tc then (kind g.2).elim ∅ (fun k => dutK k r) else ∅
  unitless _ := False
  amount g _ _ := (kind g.2).elim 1 amtK
  payload g r d := (kind g.2).elim iprop(emp) (fun k => payK m g.1.1 k r d)
  amount_pos g _ _ _ := by
    cases h : kind g.2 with
    | none => exact Nat.one_pos
    | some k => exact amtK_pos k

instance Rd_storable (g : GSem nD τ sig) (r d : ℕ) : BI.Storable (upEmb : UEmb _ 𝕄) ((Rd m).payload g r d) := by
  show BI.Storable upEmb ((kind g.2).elim iprop(emp) (fun k => payK m g.1.1 k r d))
  cases kind g.2 with
  | none => show BI.Storable upEmb iprop(emp); infer_instance
  | some k => show BI.Storable upEmb (payK m g.1.1 k r d); infer_instance

theorem duties_cell (c : Dev nD) (k : CK) (r : ℕ) : (Rd m).duties (cell c k) r = dutK k r := by
  show (if ((c : Thread nD τ)).2 = .tc then (kind (csem k)).elim ∅ (fun k => dutK k r) else ∅) = _
  rw [if_pos rfl, kind_csem]; rfl
theorem amount_cell (c : Dev nD) (k : CK) (r d : ℕ) : (Rd m).amount (cell c k) r d = amtK k := by
  show (kind (csem k)).elim 1 amtK = _
  rw [kind_csem]; rfl
theorem payload_cell (c : Dev nD) (k : CK) (r d : ℕ) : (Rd m).payload (cell c k) r d = payK m c k r d := by
  show (kind (csem k)).elim iprop(emp) (fun k' => payK m c k' r d) = _
  rw [kind_csem]; rfl
theorem expect_cell (c : Dev nD) (k : CK) (r : ℕ) : (Rd m).expect (cell c k) r = (dutK k r).card * amtK k := by
  unfold Schedule.expect Schedule.amountOf
  rw [duties_cell, Finset.sum_congr rfl fun d _ => amount_cell m c k r d, Finset.sum_const, smul_eq_mul]

/-- The number of rounds of a cell. -/
def lenK : CK → ℕ
  | .bar => 1 | .ac => 1 | .xc => 32 | _ => 16
theorem duties_end (c : Dev nD) (k : CK) (r : ℕ) (hr : lenK k ≤ r) : (Rd m).duties (cell c k) r = ∅ := by
  rw [duties_cell]
  cases k <;> (simp only [lenK] at hr; simp only [dutK]; rw [if_neg (by omega)])

/-! ## Levels and what is owed -/

@[irreducible] def L (g : GSem nD τ sig) : Finset ℕ := if g.1.2 = .tc then Finset.range 32 else ∅
def lvK : CK → ℕ → ℕ
  | .bar, _ => 1
  | .xc, u => 2 * u + 2 | .ac, u => 2 * u + 2
  | .xr _, u => 2 * u + 3 | .mr _, u => 2 * u + 3 | .ar _, u => 2 * u + 3
  | _, _ => 0
@[irreducible] def lv (g : GSem nD τ sig) (u : ℕ) : ℕ := (kind g.2).elim 0 (fun k => lvK k u)

theorem L_of_ne (g : GSem nD τ sig) (h : g.1.2 ≠ .tc) : L g = ∅ := by unfold L; exact if_neg h
theorem mem_L (c : Dev nD) (sm : SemLoc sig) (u : ℕ) (hu : u < 32) : u ∈ L ((c : Thread nD τ), sm) := by
  unfold L; rw [if_pos rfl]; exact Finset.mem_range.mpr hu
theorem lv_cell (c : Dev nD) (k : CK) (u : ℕ) : lv (cell c k) u = lvK k u := by
  unfold lv; rw [kind_csem]; rfl

abbrev CT := CellTallies nD τ sig ℕ
abbrev tl (c : Dev nD) (k : CK) (u : ℕ) : CT := tallyAt (cell c k) u (amtK k)

/-- Owed in hop `h`: two credits to the previous device and three landings on the next. -/
def O3 (c : Dev nD) (h : ℕ) : CT := tl (nxt c) (.ar (!sl h)) h + tl (nxt c) (.mr (!sl h)) h + tl (nxt c) (.xr (!sl h)) h
def O5 (c : Dev nD) (h : ℕ) : CT := O3 c h + tl (prv c) .ac h + tl (prv c) .xc h
/-- Owed from hop `h` on. -/
def OF (c : Dev nD) (h : ℕ) : CT := ∑ j ∈ Finset.Ico h 32, O5 c j
theorem OF_succ (c : Dev nD) {h : ℕ} (hh : h < 32) : OF c h = OF c (h + 1) + O5 c h := by
  unfold OF; rw [Finset.sum_eq_sum_Ico_succ_bot hh, add_comm]
theorem OF_end (c : Dev nD) : OF c 32 = 0 := rfl
/-- Owed at launch. -/
def O₀ (c : Dev nD) : CT := OF c 0 + tl (nxt c) .bar 0 + tl (prv c) .bar 0

/-- Everything owed lies above level `n`. -/
def Above (n : ℕ) (O : CT) : Prop := ∀ g u, 0 < O g u → u ∈ L g ∧ n < lv g u

theorem Above.add {n : ℕ} {O O' : CT} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.zero (n : ℕ) : Above n 0 := fun g u hg => absurd hg (Nat.lt_irrefl 0)
theorem Above.sum {n : ℕ} {S : Finset ℕ} {f : ℕ → CT} (h : ∀ j ∈ S, Above n (f j)) : Above n (∑ j ∈ S, f j) := by
  induction S using Finset.induction_on with
  | empty => exact Above.zero n
  | insert a S ha ih =>
    rw [Finset.sum_insert ha]
    exact (h a (Finset.mem_insert_self a S)).add (ih fun j hj => h j (Finset.mem_insert_of_mem hj))
theorem Above.tl {n : ℕ} {c : Dev nD} {k : CK} {u : ℕ} (hu : u < 32) (hn : n < lvK k u) : Above n (tl c k u) := by
  intro g u' hg
  rw [tallyAt_apply] at hg
  by_cases h : g = cell c k ∧ u' = u
  · rw [h.1, h.2, lv_cell]; exact ⟨mem_L c _ u hu, hn⟩
  · rw [if_neg h] at hg; exact absurd hg (Nat.lt_irrefl 0)
theorem above_O3 (c : Dev nD) {h n : ℕ} (hh : h < 32) (hn : n < 2 * h + 3) : Above n (O3 c h) :=
  ((Above.tl hh hn).add (Above.tl hh hn)).add (Above.tl hh hn)
theorem above_O5 (c : Dev nD) {h n : ℕ} (hh : h < 32) (hn : n < 2 * h + 2) : Above n (O5 c h) :=
  ((above_O3 c hh (by omega)).add (Above.tl hh hn)).add (Above.tl hh hn)
theorem above_OF (c : Dev nD) {h n : ℕ} (hn : n < 2 * h + 2) : Above n (OF c h) :=
  Above.sum fun j hj => by rw [Finset.mem_Ico] at hj; exact above_O5 c hj.2 (by omega)
theorem above_O₀ (c : Dev nD) : Above 0 (O₀ c) :=
  ((above_OF c (by omega)).add (Above.tl (by omega) Nat.one_pos)).add (Above.tl (by omega) Nat.one_pos)

/-- A wait at a level below everything owed is allowed. -/
theorem mayWait (c : Dev nD) (sm : SemLoc sig) (u n : ℕ) (O : CT) (hu : u < 32) (hl : lv ((c : Thread nD τ), sm) u ≤ n) (hO : Above n O) :
    (levAts L lv : sProp 𝕄) ⊢ MayWait (c : Thread nD τ) sm u O :=
  MayOwe.of_cut (L := L) (lev := lv) n (fun p hp => by rw [Finset.mem_singleton.mp hp]; exact mem_L c sm u hu)
    (fun g u' hg => (hO g u' hg).1)
    (fun p hp => by rw [Finset.mem_singleton.mp hp]; exact hl)
    (fun g u' hg => (hO g u' hg).2)

end Cert.KernelIdeal.RingProof

end
-- ==== Proof.Ideal.Steps.lean ====
/-
One rule per memory operation of the kernel, at the ring's cells.
-/
module

public import proofs.«01_k».proof.Proof.Ideal.Ring

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The kernel's weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device knows -/

/-- Names of the cells' and the slots' invariants. -/
structure Names where
  cell : Dev nD × CK → ℕ
  slot : Dev nD × Bool → ℕ

def recs (K : Names) : sProp 𝕄 :=
  iprop(bigSep Finset.univ (fun x : Dev nD × CK => cellInv ER (Rd m) (K.cell x) (cell x.1 x.2))
    ∗ bigSep Finset.univ (fun x : Dev nD × CK => reached ER (cell x.1 x.2) 0)
    ∗ bigSep Finset.univ (fun y : Dev nD × Bool => slotInv ES (K.slot y) y (slotA y.1 y.2))
    ∗ levAts L lv)

instance recs_persistent (K : Names) : BI.Persistent (recs m K) := by unfold recs; infer_instance

variable (K : Names)

theorem recs_inv (c : Dev nD) (k : CK) : recs m K ⊢ cellInv ER (Rd m) (K.cell (c, k)) (cell c k) := by
  unfold recs
  exact sep_elim_left.trans (bigSep_elim (Φ := fun x : Dev nD × CK => cellInv ER (Rd m) (K.cell x) (cell x.1 x.2)) (Finset.mem_univ (c, k)))
theorem recs_zero (c : Dev nD) (k : CK) : recs m K ⊢ reached ER (cell c k) 0 := by
  unfold recs
  exact sep_elim_right.trans (sep_elim_left.trans (bigSep_elim (Φ := fun x : Dev nD × CK => (reached ER (cell x.1 x.2) 0 : sProp 𝕄)) (Finset.mem_univ (c, k))))
theorem recs_slot (c : Dev nD) (s : Bool) : recs m K ⊢ slotInv ES (K.slot (c, s)) (c, s) (slotA (F := F) c s) := by
  unfold recs
  exact sep_elim_right.trans (sep_elim_right.trans (sep_elim_left.trans
    (bigSep_elim (Φ := fun y : Dev nD × Bool => (slotInv ES (K.slot y) y (slotA y.1 y.2) : sProp 𝕄)) (Finset.mem_univ (c, s)))))
theorem recs_lev : recs m K ⊢ levAts L lv := by
  unfold recs
  iintro ⟨-, -, -, H⟩
  iexact H

/-- Device `c` owes `O`. -/
def Owe (c : Dev nD) (O : CT) : sProp 𝕄 := iprop(∃ W, owes (c : Thread nD τ) O W)

/-- Device `c` is at the start of round `n` of its cell `k`. -/
def pos (c : Dev nD) (k : CK) (n : ℕ) : sProp 𝕄 := iprop(atPos ER (cell c k) n ∅ 0 ∗ reached ER (cell c k) n)

/-! ## Waits -/

/-- A wait for a round of one duty. -/
theorem wait_one (c : Dev nD) (k : CK) (r u n : ℕ) (O : CT) (hk : dutK k r = {0}) (hu : u < 32) (hl : lvK k u ≤ n) (hO : Above n O)
    {w : TpuEff nD τ sig (Elt F) Λ₀ .tc PUnit} {a : ℕ}
    (hw : ∀ Kt : PUnit → sProp 𝕄, wpE (defs₀ (F := F)) 𝒱₀ (c : Thread nD τ) none Set.univ w Kt = waitSpec (c : Thread nD τ) Set.univ (csem k) a Kt)
    (ha : a = amtK k)
    {α : Type} {Q : α → sProp 𝕄} {k' : PUnit → Prog (TpuEff nD τ sig (Elt F) Λ₀ .tc) α} :
    iprop(recs m K ∗ cred (tl c k u) ∗ Owe c O ∗ pos c k r)
      ⊢ iprop(((Owe c O ∗ pos c k (r + 1) ∗ payK m c k r 0) -∗ WP c (k' ⟨⟩) Q) -∗ WP c (.op w k') Q) := by
  subst ha
  unfold Owe pos
  iintro ⟨#Hr, Hc, ⟨%W, Ho⟩, ⟨Hat, -⟩⟩ Hk
  ihave #Hi := (recs_inv m K c k) $$ Hr
  iapply (Rounds.wp_wait_rest_token 𝒱₀ ER (Rd m) (c : Thread nD τ) none (κ := K.cell (c, k)) hw (Set.mem_univ _) u (O := O) (W := W) (R := r) (m := 0) (T := ∅)
      (by rw [expect_cell, hk, Finset.card_singleton, one_mul, zero_add])) $$ [Hc Ho Hat]
  · isplitr; · iexact Hi
    isplitl [Hc]; · iexact Hc
    isplitl [Ho]; · iexact Ho
    isplitr; · iapply ((recs_lev m K).trans (mayWait c (csem k) u n O hu (by rw [lv_cell]; exact hl) hO)); iexact Hr
    iexact Hat
  iintro ⟨Ho, Hat, #Hre, Hp⟩
  iapply Hk
  isplitl [Ho]; · iexists _; iexact Ho
  isplitl [Hat]
  · isplitl [Hat]; · iexact Hat
    iexact Hre
  ihave H := (Entails.of_eq (show bigSep ((Rd m).duties (cell c k) r \ ∅) (fun d => (Rd m).payload (cell c k) r d) = payK m c k r 0 by
    rw [Finset.sdiff_empty, duties_cell, hk, bigSep_singleton, payload_cell])) $$ Hp
  iexact H

theorem amt_x (s : Bool) : (xqM s).view.dmaCredit = Nx := by unfold Nx; cases s <;> rfl
theorem amt_m (s : Bool) : (mqM s).view.dmaCredit = Nm := by unfold Nm; cases s <;> rfl
theorem amt_a (s : Bool) : (aqM s).view.dmaCredit = Na := by unfold Na; cases s <;> rfl

theorem half_lt {h : ℕ} (hh : h < 32) : h / 2 < 16 := by omega

section Dma
variable (c : Dev nD) (s t : Bool) (h : ℕ) (hh : h < 32) (O : CT)
  {src : Memref sig .tc .vmem S1024x512 .bf16} {src' : Memref sig .tc .vmem S8x1024 .bf16} {src'' : Memref sig .tc .vmem S1024x1024 .bf16}

/-- The waits for the send cells, after hop `h` sent slot `s`: the slot is back. -/
theorem wait_xs (hs : s = sl h) (hh : h < 32) (hO : Above 0 O) {h₁ : src.view.WordExact} {h₂ : (xqM t).view.WordExact}
    {α : Type} {Q : α → sProp 𝕄} {k' : PUnit → Prog (TpuEff nD τ sig (Elt F) Λ₀ .tc) α} :
    iprop(recs m K ∗ cred (tl c (.xs s) 0) ∗ Owe c O ∗ pos c (.xs s) (h / 2))
      ⊢ iprop(((Owe c O ∗ pos c (.xs s) (h / 2 + 1) ∗ payK m c (.xs s) (h / 2) 0) -∗ WP c (k' ⟨⟩) Q)
        -∗ WP c (.op (.waitDma2 (at2 cc0_scratch4 s) src (xqM t) h₁ h₂) k') Q) :=
  wait_one m K c (.xs s) (h / 2) 0 0 O (if_pos (half_lt hh)) (by omega) le_rfl hO (wpE_waitDma2_eq 𝒱₀ (c : Thread nD τ) none Set.univ) (amt_x t)
theorem wait_ms (hs : s = sl h) (hh : h < 32) (hO : Above 0 O) {h₁ : src'.view.WordExact} {h₂ : (mqM t).view.WordExact}
    {α : Type} {Q : α → sProp 𝕄} {k' : PUnit → Prog (TpuEff nD τ sig (Elt F) Λ₀ .tc) α} :
    iprop(recs m K ∗ cred (tl c (.ms s) 0) ∗ Owe c O ∗ pos c (.ms s) (h / 2))
      ⊢ iprop(((Owe c O ∗ pos c (.ms s) (h / 2 + 1) ∗ payK m c (.ms s) (h / 2) 0) -∗ WP c (k' ⟨⟩) Q)
        -∗ WP c (.op (.waitDma2 (at2 cc0_scratch6 s) src' (mqM t) h₁ h₂) k') Q) :=
  wait_one m K c (.ms s) (h / 2) 0 0 O (if_pos (half_lt hh)) (by omega) le_rfl hO (wpE_waitDma2_eq 𝒱₀ (c : Thread nD τ) none Set.univ) (amt_m t)
theorem wait_as (hs : s = sl h) (hh : h < 32) (hO : Above 0 O) {h₁ : src''.view.WordExact} {h₂ : (aqM t).view.WordExact}
    {α : Type} {Q : α → sProp 𝕄} {k' : PUnit → Prog (TpuEff nD τ sig (Elt F) Λ₀ .tc) α} :
    iprop(recs m K ∗ cred (tl c (.as s) 0) ∗ Owe c O ∗ pos c (.as s) (h / 2))
      ⊢ iprop(((Owe c O ∗ pos c (.as s) (h / 2 + 1) ∗ payK m c (.as s) (h / 2) 0) -∗ WP c (k' ⟨⟩) Q)
        -∗ WP c (.op (.waitDma2 (at2 cc0_scratch8 s) src'' (aqM t) h₁ h₂) k') Q) :=
  wait_one m K c (.as s) (h / 2) 0 0 O (if_pos (half_lt hh)) (by omega) le_rfl hO (wpE_waitDma2_eq 𝒱₀ (c : Thread nD τ) none Set.univ) (amt_a t)
/-- The waits for what hop `h` landed in slot `s`. -/
theorem wait_xr (hh : h < 32) (hO : Above (2 * h + 3) O) {h₁ : src.view.WordExact} {h₂ : (xqM t).view.WordExact}
    {α : Type} {Q : α → sProp 𝕄} {k' : PUnit → Prog (TpuEff nD τ sig (Elt F) Λ₀ .tc) α} :
    iprop(recs m K ∗ cred (tl c (.xr s) h) ∗ Owe c O ∗ pos c (.xr s) (h / 2))
      ⊢ iprop(((Owe c O ∗ pos c (.xr s) (h / 2 + 1) ∗ payK m c (.xr s) (h / 2) 0) -∗ WP c (k' ⟨⟩) Q)
        -∗ WP c (.op (.waitDma2 (at2 cc0_scratch5 s) src (xqM t) h₁ h₂) k') Q) :=
  wait_one m K c (.xr s) (h / 2) h (2 * h + 3) O (if_pos (half_lt hh)) hh le_rfl hO (wpE_waitDma2_eq 𝒱₀ (c : Thread nD τ) none Set.univ) (amt_x t)
theorem wait_mr (hh : h < 32) (hO : Above (2 * h + 3) O) {h₁ : src'.view.WordExact} {h₂ : (mqM t).view.WordExact}
    {α : Type} {Q : α → sProp 𝕄} {k' : PUnit → Prog (TpuEff nD τ sig (Elt F) Λ₀ .tc) α} :
    iprop(recs m K ∗ cred (tl c (.mr s) h) ∗ Owe c O ∗ pos c (.mr s) (h / 2))
      ⊢ iprop(((Owe c O ∗ pos c (.mr s) (h / 2 + 1) ∗ payK m c (.mr s) (h / 2) 0) -∗ WP c (k' ⟨⟩) Q)
        -∗ WP c (.op (.waitDma2 (at2 cc0_scratch7 s) src' (mqM t) h₁ h₂) k') Q) :=
  wait_one m K c (.mr s) (h / 2) h (2 * h + 3) O (if_pos (half_lt hh)) hh le_rfl hO (wpE_waitDma2_eq 𝒱₀ (c : Thread nD τ) none Set.univ) (amt_m t)
theorem wait_ar (hh : h < 32) (hO : Above (2 * h + 3) O) {h₁ : src''.view.WordExact} {h₂ : (aqM t).view.WordExact}
    {α : Type} {Q : α → sProp 𝕄} {k' : PUnit → Prog (TpuEff nD τ sig (Elt F) Λ₀ .tc) α} :
    iprop(recs m K ∗ cred (tl c (.ar s) h) ∗ Owe c O ∗ pos c (.ar s) (h / 2))
      ⊢ iprop(((Owe c O ∗ pos c (.ar s) (h / 2 + 1) ∗ payK m c (.ar s) (h / 2) 0) -∗ WP c (k' ⟨⟩) Q)
        -∗ WP c (.op (.waitDma2 (at2 cc0_scratch9 s) src'' (aqM t) h₁ h₂) k') Q) :=
  wait_one m K c (.ar s) (h / 2) h (2 * h + 3) O (if_pos (half_lt hh)) hh le_rfl hO (wpE_waitDma2_eq 𝒱₀ (c : Thread nD τ) none Set.univ) (amt_a t)

end Dma

/-- The wait for credit `h`: the next device's slots. -/
theorem wait_xc (c : Dev nD) (h : ℕ) (hh : h < 32) (O : CT) (hO : Above (2 * h + 2) O) {a : ℕ} (ha : a = 1)
    {α : Type} {Q : α → sProp 𝕄} {k' : PUnit → Prog (TpuEff nD τ sig (Elt F) Λ₀ .tc) α} :
    iprop(recs m K ∗ cred (tl c .xc h) ∗ Owe c O ∗ pos c .xc h)
      ⊢ iprop(((Owe c O ∗ pos c .xc (h + 1) ∗ creditPay c h) -∗ WP c (k' ⟨⟩) Q)
        -∗ WP c (.op (.semWait (cc0_scratch10 : Sems sig S_).sem a) k') Q) :=
  wait_one m K c .xc h h (2 * h + 2) O (if_pos hh) hh le_rfl hO (wpE_semWait_eq 𝒱₀ (c : Thread nD τ) none Set.univ) ha

/-- Where device `c` stands in its accumulator credits after `h` of them: which ones it has been handed is not fixed,
    only that they are at least `h`. -/
def acPos (c : Dev nD) (h : ℕ) : sProp 𝕄 :=
  iprop(∃ S : Finset ℕ, ⌜S ⊆ Finset.range 32 ∧ h ≤ S.card⌝ ∗ atPos ER (cell c .ac) 0 S h ∗ bigSep S (fun d => heard (accFact (F := F) (nxt c)) (Finset.range (d + 1))))

theorem heard_split (e : Dev nD) {S S' : Finset ℕ} (h : S ⊆ S') :
    iprop(bigSep S (fun d => heard (accFact (F := F) e) (Finset.range (d + 1))) ∗ bigSep (S' \ S) (fun d => heard (accFact (F := F) e) (Finset.range (d + 1))))
      ⊢ bigSep S' (fun d => heard (accFact (F := F) e) (Finset.range (d + 1))) :=
  Entails.of_eq (bigSep_sdiff_split (Φ := fun d => heard (accFact (F := F) e) (Finset.range (d + 1))) h).symm
theorem heard_of_mem (e : Dev nD) {S : Finset ℕ} {d h : ℕ} (hd : d ∈ S) (hh : h ≤ d) :
    bigSep S (fun d => heard (accFact (F := F) e) (Finset.range (d + 1))) ⊢ accFact e h :=
  (bigSep_elim (Φ := fun d => heard (accFact (F := F) e) (Finset.range (d + 1))) hd).trans
    (heard_elim (Φ := accFact (F := F) e) (Finset.mem_range.mpr (Nat.lt_succ_of_le hh)))

theorem exists_ge_of_card {S : Finset ℕ} {h : ℕ} (hS : h + 1 ≤ S.card) : ∃ d ∈ S, h ≤ d := by
  by_contra hn
  push Not at hn
  have : S ⊆ Finset.range h := fun d hd => Finset.mem_range.mpr (hn d hd)
  have := Finset.card_le_card this
  rw [Finset.card_range] at this
  omega

/-- The wait for an accumulator credit, the `h`-th: whatever credits came, one of them is the `h`-th or later, so the
    `h`-th's facts hold. -/
theorem wait_ac (c : Dev nD) (h : ℕ) (hh : h < 32) (O : CT) (hO : Above (2 * h + 2) O) {a : ℕ} (ha : a = 1)
    {α : Type} {Q : α → sProp 𝕄} {k' : PUnit → Prog (TpuEff nD τ sig (Elt F) Λ₀ .tc) α} :
    iprop(recs m K ∗ cred (tl c .ac h) ∗ Owe c O ∗ acPos c h)
      ⊢ iprop(((Owe c O ∗ acPos c (h + 1) ∗ accFact (nxt c) h) -∗ WP c (k' ⟨⟩) Q)
        -∗ WP c (.op (.semWait (cc0_scratch11 : Sems sig S_).sem a) k') Q) := by
  subst ha
  unfold Owe acPos
  iintro ⟨#Hr, Hc, ⟨%W, Ho⟩, ⟨%S, %hS, Hat, #HS⟩⟩ Hk
  ihave #Hi := (recs_inv m K c .ac) $$ Hr
  iapply (Rounds.wp_wait 𝒱₀ ER (Rd m) (c : Thread nD τ) none (κ := K.cell (c, .ac)) (wpE_semWait_eq 𝒱₀ (c : Thread nD τ) none Set.univ) (Set.mem_univ _)
      (cr := Finsupp.single h 1) (O := O) (W := W) {(csem .ac, h)} (R := 0) (m := h) (T := S) (Util.total_single h 1)
      (image_single_subset (csem .ac) h 1)) $$ [Hc Ho Hat]
  · isplitr; · iexact Hi
    isplitl [Hc]; · iexact Hc
    isplitl [Ho]; · iexact Ho
    isplitr; · iapply ((recs_lev m K).trans (mayWait c (csem .ac) h (2 * h + 2) O hh (by rw [lv_cell]; exact le_rfl) hO)); iexact Hr
    iexact Hat
  iintro %S' ⟨%hS', Ho, Hat, Hp⟩
  rw [duties_cell m c .ac, expect_cell m c .ac] at hS'
  obtain ⟨hsub, hsub', hcard⟩ := hS'
  have hd : dutK .ac 0 = Finset.range 32 := rfl
  rw [hd] at hsub' hcard
  have ha : amtK .ac = 1 := rfl
  rw [Finset.card_range, ha, Finset.card_sdiff_of_subset hsub', Finset.card_range] at hcard
  have hc32 : S'.card ≤ 32 := (Finset.card_le_card hsub').trans (Finset.card_range 32).le
  have hge : h + 1 ≤ S'.card := by omega
  obtain ⟨d, hd', hhd⟩ := exists_ge_of_card hge
  ihave #Hp' := (Entails.of_eq (bigSep_congr (s := S' \ S) (Φ := fun d => (Rd m).payload (cell c .ac) 0 d) (Ψ := fun d => heard (accFact (F := F) (nxt c)) (Finset.range (d + 1)))
    fun d _ => payload_cell m c .ac 0 d)) $$ Hp
  ihave #Hall := (heard_split (nxt c) hsub) $$ [HS Hp']
  · isplitl [HS]; · iexact HS
    iexact Hp'
  ihave #Hf := (heard_of_mem (nxt c) hd' hhd) $$ Hall
  iapply Hk
  isplitl [Ho]; · iexists _; iexact Ho
  isplitl [Hat]
  · iexists S'
    isplitr; · ipureintro; exact ⟨hsub', hge⟩
    isplitl [Hat]; · iexact Hat
    iexact Hall
  iexact Hf

/-! ## Signals -/

theorem duty_mem {k : CK} {r : ℕ} (hk : dutK k r = {0}) : 0 ∈ dutK k r := by rw [hk]; exact Finset.mem_singleton_self _

theorem half (h : ℕ) : 2 * (h / 2) + (sl h).toNat = h := by
  unfold sl
  rcases Nat.mod_two_eq_zero_or_one h with e | e <;> simp [e] <;> omega

/-- The barrier's signals carry nothing. -/
theorem signal_bar (c n e : Dev nD) (hn : n = e) (d : ℕ) (hd : d ∈ dutK .bar 0) (O : CT) {a : ℕ} (ha : 1 = a)
    {α : Type} {Q : α → sProp 𝕄} {k' : PUnit → Prog (TpuEff nD τ sig (Elt F) Λ₀ .tc) α} :
    iprop(recs m K ∗ Owe c (O + tl e .bar 0) ∗ dutyTok ER (cell e .bar) 0 d)
      ⊢ iprop((Owe c O -∗ WP c (k' ⟨⟩) Q) -∗ WP c (.op (.semSignal (n : Thread nD τ) barS a) k') Q) := by
  subst hn ha
  unfold Owe
  iintro ⟨#Hr, ⟨%W, Ho⟩, Ht⟩ Hk
  ihave #Hi := (recs_inv m K n .bar) $$ Hr
  ihave #Hz := (recs_zero m K n .bar) $$ Hr
  iapply (Rounds.wp_signal 𝒱₀ ER (Rd m) (c : Thread nD τ) none (dst := (n : Thread nD τ)) (κ := K.cell (n, .bar)) (r := 0)
      (d := d) (by rw [duties_cell m n .bar]; exact hd) (amount_cell m n .bar 0 d) 0 O rfl)
    $$ [Ho Ht]
  · isplitr; · iexact Hi
    isplitl [Ho]; · iexact Ho
    isplitl [Ht]; · iexact Ht
    isplitr; · rw [payload_cell m n .bar]; unfold payK; iempintro
    iexact Hz
  iintro Ho
  iapply Hk; iexists W; iexact Ho

/-- Credit `h` to the previous device: the slots its hop `h` writes. -/
theorem signal_xc (c n : Dev nD) (hn : n = prv c) (h : ℕ) (hh : h < 32) (O : CT) {a : ℕ} (ha : 1 = a)
    {α : Type} {Q : α → sProp 𝕄} {k' : PUnit → Prog (TpuEff nD τ sig (Elt F) Λ₀ .tc) α} :
    iprop(recs m K ∗ Owe c (O + tl (prv c) .xc h) ∗ dutyTok ER (cell (prv c) .xc) h 0 ∗ reached ER (cell (prv c) .xc) h
        ∗ slotX c (!sl h) ∗ slotM c (!sl h) ∗ reached ER (cell c (.xr (!sl h))) (h / 2) ∗ reached ER (cell c (.mr (!sl h))) (h / 2))
      ⊢ iprop((Owe c O -∗ WP c (k' ⟨⟩) Q) -∗ WP c (.op (.semSignal (n : Thread nD τ) (cc0_scratch10 : Sems sig S_).sem a) k') Q) := by
  subst hn ha
  unfold Owe
  iintro ⟨#Hr, ⟨%W, Ho⟩, Ht, Hq, Hx, Hm, Hrx, Hrm⟩ Hk
  ihave #Hi := (recs_inv m K (prv c) .xc) $$ Hr
  iapply (Rounds.wp_signal 𝒱₀ ER (Rd m) (c : Thread nD τ) none (dst := (prv c : Thread nD τ)) (κ := K.cell (prv c, .xc)) (r := h)
      (d := 0) (by rw [duties_cell m (prv c) .xc]; exact duty_mem (if_pos hh)) (amount_cell m (prv c) .xc h 0) h O rfl)
    $$ [Ho Ht Hq Hx Hm Hrx Hrm]
  · isplitr; · iexact Hi
    isplitl [Ho]; · iexact Ho
    isplitl [Ht]; · iexact Ht
    isplitl [Hx Hm Hrx Hrm]
    · rw [payload_cell m (prv c) .xc]; unfold payK creditPay; rw [nxt_prv]
      isplitl [Hx]; · iexact Hx
      isplitl [Hm]; · iexact Hm
      isplitl [Hrx]; · iexact Hrx
      iexact Hrm
    iexact Hq
  iintro Ho
  iapply Hk; iexists W; iexact Ho

theorem acM_pos (s : Bool) : (acM s).view.set.Nonempty := by
  cases s
  · exact ⟨_, (acM false).view.emb_mem_set (fun a => ⟨0, by fin_cases a <;> decide⟩)⟩
  · exact ⟨_, (acM true).view.emb_mem_set (fun a => ⟨0, by fin_cases a <;> decide⟩)⟩

theorem slotA_excl (c : Dev nD) (s : Bool) : iprop(slotA (F := F) c s ∗ slotA (F := F) c s) ⊢ (False : sProp 𝕄) := by
  unfold slotA; exact slot_slot_false (acM_pos s)

/-- Accumulator credit `h` to the previous device: the slot its hop `h` writes is released for that write. -/
theorem signal_ac (c n : Dev nD) (hn : n = prv c) (h : ℕ) (hh : h < 32) (O : CT) {a : ℕ} (ha : 1 = a)
    {α : Type} {Q : α → sProp 𝕄} {k' : PUnit → Prog (TpuEff nD τ sig (Elt F) Λ₀ .tc) α} :
    iprop(recs m K ∗ Owe c (O + tl (prv c) .ac h) ∗ dutyTok ER (cell (prv c) .ac) 0 h
        ∗ slotA c (!sl h) ∗ readerAt ES (c, !sl h) (h / 2) ∗ reached ER (cell c (.ar (!sl h))) (h / 2) ∗ heard (accFact (F := F) c) (Finset.range h))
      ⊢ iprop(((Owe c O ∗ readerAt ES (c, !sl h) (h / 2 + 1) ∗ heard (accFact (F := F) c) (Finset.range (h + 1))) -∗ WP c (k' ⟨⟩) Q)
          -∗ WP c (.op (.semSignal (n : Thread nD τ) (cc0_scratch11 : Sems sig S_).sem a) k') Q) := by
  subst hn ha
  unfold Owe
  iintro ⟨#Hr, ⟨%W, Ho⟩, Ht, Ha, Hrd, #Hra, #Hh⟩ Hk
  ihave #Hi := (recs_inv m K (prv c) .ac) $$ Hr
  ihave #Hz := (recs_zero m K (prv c) .ac) $$ Hr
  ihave #Hs := (recs_slot m K c (!sl h)) $$ Hr
  imod (slot_release (E := ES (F := F)) (Set.mem_univ (K.slot (c, !sl h))) (slotA_excl c (!sl h)) (h / 2)) $$ [Hrd Ha] with ⟨Hrd, #Hrel⟩
  · isplitr; · iexact Hs
    isplitl [Hrd]; · iexact Hrd
    iexact Ha
  have hset : Finset.range h ∪ {h} = Finset.range (h + 1) := by rw [Finset.range_add_one, Finset.insert_eq, Finset.union_comm]
  ihave #Hh' := (show iprop(heard (accFact (F := F) c) (Finset.range h) ∗ accFact (F := F) c h) ⊢ heard (accFact (F := F) c) (Finset.range (h + 1)) from
    (sep_mono_right (heard_single (Φ := accFact (F := F) c) h)).trans ((heard_union (Φ := accFact (F := F) c) (Finset.range h) {h}).trans (Entails.of_eq (by rw [hset])))) $$ []
  · isplitr; · iexact Hh
    unfold accFact
    isplitr; · iexact Hrel
    iexact Hra
  iapply (Rounds.wp_signal 𝒱₀ ER (Rd m) (c : Thread nD τ) none (dst := (prv c : Thread nD τ)) (κ := K.cell (prv c, .ac)) (r := 0)
      (d := h) (by rw [duties_cell m (prv c) .ac]; exact Finset.mem_range.mpr hh) (amount_cell m (prv c) .ac 0 h) h O rfl)
    $$ [Ho Ht]
  · isplitr; · iexact Hi
    isplitl [Ho]; · iexact Ho
    isplitl [Ht]; · iexact Ht
    isplitr
    · rw [payload_cell m (prv c) .ac]; unfold payK; rw [nxt_prv]; iexact Hh'
    iexact Hz
  iintro Ho
  iapply Hk
  isplitl [Ho]; · iexists W; iexact Ho
  isplitl [Hrd]; · iexact Hrd
  iexact Hh'

theorem pay_xs (c : Dev nD) (h d : ℕ) : payK m c (.xs (sl h)) (h / 2) d = ownX c (sl h) (X m (back c h)) := by
  show ownX c (sl h) (X m (back c (2 * (h / 2) + (sl h).toNat))) = _
  rw [half]
theorem pay_ms (c : Dev nD) (h d : ℕ) : payK m c (.ms (sl h)) (h / 2) d = ownM c (sl h) (Mt m (back c h)) := by
  show ownM c (sl h) (Mt m (back c (2 * (h / 2) + (sl h).toNat))) = _
  rw [half]
theorem pay_as (c : Dev nD) (h d : ℕ) : payK m c (.as (sl h)) (h / 2) d = ownA c (sl h) (A m h c) := by
  show ownA c (sl h) (A m (2 * (h / 2) + (sl h).toNat) c) = _
  rw [half]
theorem pay_xr (c : Dev nD) (h d : ℕ) :
    payK m c (.xr (!sl h)) (h / 2) d = iprop(ownX c (!sl h) (X m (back c (h + 1))) ∗ reached ER (cell (prv c) .xc) (h + 1)) := by
  show iprop(ownX c (!sl h) (X m (back c (2 * (h / 2) + (!!sl h).toNat + 1))) ∗ reached ER (cell (prv c) .xc) (2 * (h / 2) + (!!sl h).toNat + 1)) = _
  rw [Bool.not_not, half]
theorem pay_mr (c : Dev nD) (h d : ℕ) : payK m c (.mr (!sl h)) (h / 2) d = ownM c (!sl h) (Mt m (back c (h + 1))) := by
  show ownM c (!sl h) (Mt m (back c (2 * (h / 2) + (!!sl h).toNat + 1))) = _
  rw [Bool.not_not, half]
theorem pay_ar (c : Dev nD) (h d : ℕ) : payK m c (.ar (!sl h)) (h / 2) d = ownA c (!sl h) (A m h (prv c)) := by
  show ownA c (!sl h) (A m (2 * (h / 2) + (!!sl h).toNat) (prv c)) = _
  rw [Bool.not_not, half]

/-! ## Transfers -/

/-- A copy between squeezed slots lands what the whole source slot read. -/
theorem copy_reads {sp sp' : Space} {s s' : Shape} {e : EltTy} (v : View sig .tc sp s e) (w : View sig .tc sp' s e) (h : s'.numel = s.numel)
    (fd : v.ty.Contents (Elt F)) (fs : w.ty.Contents (Elt F)) :
    v.read (Elt F) ((v.reshape s' h).write (Elt F) fd ((w.reshape s' h).read (Elt F) fs) Finset.univ) = w.read (Elt F) fs := by
  rw [View.write_reshape_univ, View.read_write_univ]
  funext x
  rw [View.read_apply, View.read_apply]
  simp

theorem xq_set (s : Bool) : (xqM s).view.set = (xgM s).view.set := View.set_reshape _ _
theorem mq_set (s : Bool) : (mqM s).view.set = (meM s).view.set := View.set_reshape _ _
theorem aq_set (s : Bool) : (aqM s).view.set = (acM s).view.set := View.set_reshape _ _

/-- The copy of hop `h`'s tokens from slot `sl h` to the next device's other slot. -/
theorem send_x (c n : Dev nD) (hn : n = nxt c) (h : ℕ) (hh : h < 32) (s t : Bool) (hs : s = sl h) (ht : t = !sl h) (O : CT)
    {hsc : (xqM t).view.ref.isScScratch = false} {hsrc : (xqM s).view.WordExact} {hdst : (xqM t).view.WordExact}
    {hsem : DmaTarget.Typed .vmem (.dma (at2 cc0_scratch5 t)) (.remote (n : Thread nD τ) (xqM t) (.dma (at2 cc0_scratch4 s)) hsc)}
    {α : Type} {Q : α → sProp 𝕄} {k' : PUnit → Prog (TpuEff nD τ sig (Elt F) Λ₀ .tc) α} :
    iprop(recs m K ∗ ownX c s (X m (back c h)) ∗ slotX (nxt c) t ∗ reached ER (cell c .xc) (h + 1) ∗ Owe c (O + tl (nxt c) (.xr t) h)
        ∗ dutyTok ER (cell c (.xs s)) (h / 2) 0 ∗ reached ER (cell c (.xs s)) (h / 2)
        ∗ dutyTok ER (cell (nxt c) (.xr t)) (h / 2) 0 ∗ reached ER (cell (nxt c) (.xr t)) (h / 2))
      ⊢ iprop(((cred (tl c (.xs s) 0) ∗ Owe c O) -∗ WP c (k' ⟨⟩) Q)
          -∗ WP c (.op (.enqueueDma (xqM s) (.remote (n : Thread nD τ) (xqM t) (.dma (at2 cc0_scratch4 s)) hsc) (.dma (at2 cc0_scratch5 t)) hsrc hdst hsem) k') Q) := by
  subst hn hs ht
  unfold Owe ownX owns slotX slot
  iintro ⟨#Hr, ⟨%fs, %hfs, Hs⟩, ⟨%fd, Hd⟩, #He, ⟨%W, Ho⟩, Hts, Hrs, Htr, Hrr⟩ Hk
  ihave #Hi := (recs_inv m K c (.xs (sl h))) $$ Hr
  ihave #Hi' := (recs_inv m K (nxt c) (.xr (!sl h))) $$ Hr
  iapply (Rounds.wp_send_pointsTo_with 𝒱₀ ER (Rd m) (c : Thread nD τ) none (κ₁ := K.cell (c, .xs (sl h))) (κ₂ := K.cell (nxt c, .xr (!sl h)))
      (c' := (nxt c : Thread nD τ)) (src := xqM (sl h)) (dst := xqM (!sl h))
      (r₁ := h / 2) (r₂ := h / 2) (d₁ := 0) (d₂ := 0) (q := fullShare) (fs := fs) (fd := fd)
      (F := reached ER (cell c .xc) (h + 1))
      (by rw [duties_cell m c (.xs (sl h))]; exact duty_mem (if_pos (half_lt hh))) (by rw [duties_cell m (nxt c) (.xr (!sl h))]; exact duty_mem (if_pos (half_lt hh)))
      h 0 Nx (by exact amt_x (!sl h)) (amount_cell m c (.xs (sl h)) _ _) (amount_cell m (nxt c) (.xr (!sl h)) _ _) O rfl (W := W)
      (by
        rw [payload_cell m c (.xs (sl h)), pay_xs]; unfold ownX owns
        iintro H; iexists fs
        isplitr; · ipureintro; exact hfs
        rw [← xq_set]; iexact H)
      (by
        rw [payload_cell m (nxt c) (.xr (!sl h)), pay_xr]; unfold ownX owns; rw [prv_nxt, back_succ, prv_nxt]
        iintro ⟨H, He⟩
        isplitl [H]
        rotate_left; · iexact He
        iexists ((xqM (!sl h)).view.write (Elt F) fd ((xqM (sl h)).view.read (Elt F) fs) Finset.univ)
        isplitr
        · ipureintro; exact (copy_reads (xgM (!sl h)).view (xgM (sl h)).view _ fd fs).trans hfs
        rw [← xq_set]; iexact H))
    $$ [Hs Hd Ho Hts Hrs Htr Hrr]
  · isplitr; · iexact Hi
    isplitr; · iexact Hi'
    isplitl [Hs]; · rw [xq_set]; iexact Hs
    isplitl [Hd]
    · isplitl [Hd]; · rw [xq_set]; iexact Hd
      iexact He
    isplitl [Ho]; · iexact Ho
    isplitl [Hts]; · iexact Hts
    isplitl [Hrs]; · iexact Hrs
    isplitl [Htr]; · iexact Htr
    iexact Hrr
  iintro ⟨Hc, Ho⟩
  iapply Hk
  isplitl [Hc]; · iexact Hc
  iexists W; iexact Ho

/-- The copy of hop `h`'s gate records from slot `sl h` to the next device's other slot. -/
theorem send_m (c n : Dev nD) (hn : n = nxt c) (h : ℕ) (hh : h < 32) (s t : Bool) (hs : s = sl h) (ht : t = !sl h) (O : CT)
    {hsc : (mqM t).view.ref.isScScratch = false} {hsrc : (mqM s).view.WordExact} {hdst : (mqM t).view.WordExact}
    {hsem : DmaTarget.Typed .vmem (.dma (at2 cc0_scratch7 t)) (.remote (n : Thread nD τ) (mqM t) (.dma (at2 cc0_scratch6 s)) hsc)}
    {α : Type} {Q : α → sProp 𝕄} {k' : PUnit → Prog (TpuEff nD τ sig (Elt F) Λ₀ .tc) α} :
    iprop(recs m K ∗ ownM c s (Mt m (back c h)) ∗ slotM (nxt c) t ∗ Owe c (O + tl (nxt c) (.mr t) h)
        ∗ dutyTok ER (cell c (.ms s)) (h / 2) 0 ∗ reached ER (cell c (.ms s)) (h / 2)
        ∗ dutyTok ER (cell (nxt c) (.mr t)) (h / 2) 0 ∗ reached ER (cell (nxt c) (.mr t)) (h / 2))
      ⊢ iprop(((cred (tl c (.ms s) 0) ∗ Owe c O) -∗ WP c (k' ⟨⟩) Q)
          -∗ WP c (.op (.enqueueDma (mqM s) (.remote (n : Thread nD τ) (mqM t) (.dma (at2 cc0_scratch6 s)) hsc) (.dma (at2 cc0_scratch7 t)) hsrc hdst hsem) k') Q) := by
  subst hn hs ht
  unfold Owe ownM owns slotM slot
  iintro ⟨#Hr, ⟨%fs, %hfs, Hs⟩, ⟨%fd, Hd⟩, ⟨%W, Ho⟩, Hts, Hrs, Htr, Hrr⟩ Hk
  ihave #Hi := (recs_inv m K c (.ms (sl h))) $$ Hr
  ihave #Hi' := (recs_inv m K (nxt c) (.mr (!sl h))) $$ Hr
  iapply (Rounds.wp_send_pointsTo 𝒱₀ ER (Rd m) (c : Thread nD τ) none (κ₁ := K.cell (c, .ms (sl h))) (κ₂ := K.cell (nxt c, .mr (!sl h)))
      (c' := (nxt c : Thread nD τ)) (src := mqM (sl h)) (dst := mqM (!sl h))
      (r₁ := h / 2) (r₂ := h / 2) (d₁ := 0) (d₂ := 0) (q := fullShare) (fs := fs) (fd := fd)
      (by rw [duties_cell m c (.ms (sl h))]; exact duty_mem (if_pos (half_lt hh))) (by rw [duties_cell m (nxt c) (.mr (!sl h))]; exact duty_mem (if_pos (half_lt hh)))
      h 0 Nm (by exact amt_m (!sl h)) (amount_cell m c (.ms (sl h)) _ _) (amount_cell m (nxt c) (.mr (!sl h)) _ _) O rfl (W := W)
      (by
        rw [payload_cell m c (.ms (sl h)), pay_ms]; unfold ownM owns
        iintro H; iexists fs
        isplitr; · ipureintro; exact hfs
        rw [← mq_set]; iexact H)
      (by
        rw [payload_cell m (nxt c) (.mr (!sl h)), pay_mr]; unfold ownM owns; rw [back_succ, prv_nxt]
        iintro H
        iexists ((mqM (!sl h)).view.write (Elt F) fd ((mqM (sl h)).view.read (Elt F) fs) Finset.univ)
        isplitr
        · ipureintro; exact (copy_reads (meM (!sl h)).view (meM (sl h)).view _ fd fs).trans hfs
        rw [← mq_set]; iexact H))
    $$ [Hs Hd Ho Hts Hrs Htr Hrr]
  · isplitr; · iexact Hi
    isplitr; · iexact Hi'
    isplitl [Hs]; · rw [mq_set]; iexact Hs
    isplitl [Hd]
    · rw [mq_set]; iexact Hd
    isplitl [Ho]; · iexact Ho
    isplitl [Hts]; · iexact Hts
    isplitl [Hrs]; · iexact Hrs
    isplitl [Htr]; · iexact Htr
    iexact Hrr
  iintro ⟨Hc, Ho⟩
  iapply Hk
  isplitl [Hc]; · iexact Hc
  iexists W; iexact Ho

/-- The copy of hop `h`'s accumulator from slot `sl h` to the next device's other slot. -/
theorem send_a (c n : Dev nD) (hn : n = nxt c) (h : ℕ) (hh : h < 32) (s t : Bool) (hs : s = sl h) (ht : t = !sl h) (O : CT)
    {hsc : (aqM t).view.ref.isScScratch = false} {hsrc : (aqM s).view.WordExact} {hdst : (aqM t).view.WordExact}
    {hsem : DmaTarget.Typed .vmem (.dma (at2 cc0_scratch9 t)) (.remote (n : Thread nD τ) (aqM t) (.dma (at2 cc0_scratch8 s)) hsc)}
    {α : Type} {Q : α → sProp 𝕄} {k' : PUnit → Prog (TpuEff nD τ sig (Elt F) Λ₀ .tc) α} :
    iprop(recs m K ∗ ownA c s (A m h c) ∗ slotA (nxt c) t ∗ Owe c (O + tl (nxt c) (.ar t) h)
        ∗ dutyTok ER (cell c (.as s)) (h / 2) 0 ∗ reached ER (cell c (.as s)) (h / 2)
        ∗ dutyTok ER (cell (nxt c) (.ar t)) (h / 2) 0 ∗ reached ER (cell (nxt c) (.ar t)) (h / 2))
      ⊢ iprop(((cred (tl c (.as s) 0) ∗ Owe c O) -∗ WP c (k' ⟨⟩) Q)
          -∗ WP c (.op (.enqueueDma (aqM s) (.remote (n : Thread nD τ) (aqM t) (.dma (at2 cc0_scratch8 s)) hsc) (.dma (at2 cc0_scratch9 t)) hsrc hdst hsem) k') Q) := by
  subst hn hs ht
  unfold Owe ownA owns slotA slot
  iintro ⟨#Hr, ⟨%fs, %hfs, Hs⟩, ⟨%fd, Hd⟩, ⟨%W, Ho⟩, Hts, Hrs, Htr, Hrr⟩ Hk
  ihave #Hi := (recs_inv m K c (.as (sl h))) $$ Hr
  ihave #Hi' := (recs_inv m K (nxt c) (.ar (!sl h))) $$ Hr
  iapply (Rounds.wp_send_pointsTo 𝒱₀ ER (Rd m) (c : Thread nD τ) none (κ₁ := K.cell (c, .as (sl h))) (κ₂ := K.cell (nxt c, .ar (!sl h)))
      (c' := (nxt c : Thread nD τ)) (src := aqM (sl h)) (dst := aqM (!sl h))
      (r₁ := h / 2) (r₂ := h / 2) (d₁ := 0) (d₂ := 0) (q := fullShare) (fs := fs) (fd := fd)
      (by rw [duties_cell m c (.as (sl h))]; exact duty_mem (if_pos (half_lt hh))) (by rw [duties_cell m (nxt c) (.ar (!sl h))]; exact duty_mem (if_pos (half_lt hh)))
      h 0 Na (by exact amt_a (!sl h)) (amount_cell m c (.as (sl h)) _ _) (amount_cell m (nxt c) (.ar (!sl h)) _ _) O rfl (W := W)
      (by
        rw [payload_cell m c (.as (sl h)), pay_as]; unfold ownA owns
        iintro H; iexists fs
        isplitr; · ipureintro; exact hfs
        rw [← aq_set]; iexact H)
      (by
        rw [payload_cell m (nxt c) (.ar (!sl h)), pay_ar]; unfold ownA owns; rw [prv_nxt]
        iintro H
        iexists ((aqM (!sl h)).view.write (Elt F) fd ((aqM (sl h)).view.read (Elt F) fs) Finset.univ)
        isplitr
        · ipureintro; exact (copy_reads (acM (!sl h)).view (acM (sl h)).view _ fd fs).trans hfs
        rw [← aq_set]; iexact H))
    $$ [Hs Hd Ho Hts Hrs Htr Hrr]
  · isplitr; · iexact Hi
    isplitr; · iexact Hi'
    isplitl [Hs]; · rw [aq_set]; iexact Hs
    isplitl [Hd]
    · rw [aq_set]; iexact Hd
    isplitl [Ho]; · iexact Ho
    isplitl [Hts]; · iexact Hts
    isplitl [Hrs]; · iexact Hrs
    isplitl [Htr]; · iexact Htr
    iexact Hrr
  iintro ⟨Hc, Ho⟩
  iapply Hk
  isplitl [Hc]; · iexact Hc
  iexists W; iexact Ho

end Cert.KernelIdeal.RingProof

end
-- ==== Proof.Ideal.Mem.lean ====
/-
The kernel's loads and stores, and the steps of one hop.

Before hop `h` device `c` holds, in groups: what it needs to give back slots to the previous device (`Rel`), to send
tokens and records (`SendX`), to add its share to the accumulator (`Acc`), to send the accumulator (`SendA`), to receive
(`Recv`), and what the hop leaves alone (`Rest`).
-/
module

public import proofs.«01_k».proof.Proof.Ideal.Steps
public import Idealize.SL.BI.BigOpNat

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

/-! ## Loads and stores -/

/-- A load through a rectangle whose elements are held. -/
theorem load_owns (c : Dev nD) {s : Shape} {e : EltTy} {M : Memref sig .tc .vmem s e} {r : Rect s} {hr : ∀ a, r.stride a = 1} {V : r.shape.Idx → Elt F e}
    {hl : M.view.LoadsAt r.toLoadRect} {α : Type} {Q : α → sProp 𝕄} {k' : (r.shape.Idx → Elt F e) → Prog (TpuEff nD τ sig (Elt F) Λ₀ .tc) α} :
    (owns (c : Thread nD τ) (M.slice r hr) fullShare V : sProp 𝕄)
      ⊢ iprop((owns (c : Thread nD τ) (M.slice r hr) fullShare V -∗ WP c (k' V) Q) -∗ WP c (.op (.load M r.toLoadRect hl) k') Q) := by
  unfold owns
  iintro ⟨%f, %hf, H⟩ Hk
  iapply (wp_load_rect 𝒱₀ (c : Thread nD τ) none Set.univ (m := M) (r := r) (S := (M.access r).set) subset_rfl) $$ H
  iintro H
  rw [show (M.access r).read (Elt F) f = V from hf]
  iapply Hk
  iexists f
  isplitr; · ipureintro; exact hf
  iexact H

/-- A store of a whole rectangle whose elements are held, whatever they hold. -/
theorem store_owns (c : Dev nD) {s : Shape} {e : EltTy} {M : Memref sig .tc .vmem s e} {r : Rect s} {hr : ∀ a, r.stride a = 1} {w : r.shape.Idx → Elt F e}
    {hx : (M.access r).Stores Finset.univ} {hm : (Finset.univ : Finset r.shape.Idx) = Finset.univ ∨ ∀ a, r.stride a = 1}
    {α : Type} {Q : α → sProp 𝕄} {k' : PUnit → Prog (TpuEff nD τ sig (Elt F) Λ₀ .tc) α} :
    (iprop(∃ V, owns (c : Thread nD τ) (M.slice r hr) fullShare V) : sProp 𝕄)
      ⊢ iprop((owns (c : Thread nD τ) (M.slice r hr) fullShare w -∗ WP c (k' ⟨⟩) Q) -∗ WP c (.op (.store M r w Finset.univ hx hm) k') Q) := by
  unfold owns
  iintro ⟨%V, %f, -, H⟩ Hk
  iapply (wp_store 𝒱₀ (c : Thread nD τ) none Set.univ (m := M) (r := r) (S := (M.access r).set) subset_rfl) $$ H
  iintro H
  iapply Hk
  iexists ((M.access r).write (Elt F) f w Finset.univ)
  isplitr; · ipureintro; exact View.read_write_univ _ _
  iexact H

theorem hz : (![0, 0] : Fin 2 → Nat) = fun _ => 0 := funext fun a => by fin_cases a <;> rfl

/-- Device `c`'s share buffer holds `V`. -/
def ctP (c : Dev nD) (V : FVec F S1024x1024 .f32) : sProp 𝕄 := (ctM.view.loc (c : Thread nD τ) ↦{fullShare} V)

theorem load_ct (c : Dev nD) {V : FVec F S1024x1024 .f32} {hl : ctM.view.LoadsAt (Rect.unit (s := S1024x1024) ![0, 0] S1024x1024.size inb_S1024x1024_S1024x1024_0_0).toLoadRect} {α : Type} {Q : α → sProp 𝕄} {k' : FVec F S1024x1024 .f32 → Prog (TpuEff nD τ sig (Elt F) Λ₀ .tc) α} :
    ctP c V ⊢ iprop((ctP c V -∗ WP c (k' V) Q)
      -∗ WP c (.op (.load ctM (Rect.unit (s := S1024x1024) ![0, 0] S1024x1024.size inb_S1024x1024_S1024x1024_0_0).toLoadRect hl : TpuEff nD τ sig (Elt F) Λ₀ .tc ((Rect.unit (s := S1024x1024) ![0, 0] S1024x1024.size inb_S1024x1024_S1024x1024_0_0).shape.Idx → Elt F .f32)) k') Q) := by
  unfold ctP
  iintro H Hk
  iapply (wp_load 𝒱₀ (c : Thread nD τ) none Set.univ (m := ctM) (Finset.subset_univ _)) $$ H
  iintro H
  rw [show (ctM.view.readAt (Elt F) (Rect.unit (s := S1024x1024) ![0, 0] S1024x1024.size inb_S1024x1024_S1024x1024_0_0).toLoadRect V) = V from
    Memref.readAt_unit_zero (Elt F) cc0_scratch3 hz _ V]
  iapply Hk
  iexact H

theorem store_ct (c : Dev nD) {w : FVec F S1024x1024 .f32} {hx : (ctM.access (Rect.unit (s := S1024x1024) ![0, 0] S1024x1024.size inb_S1024x1024_S1024x1024_0_0)).Stores Finset.univ} {hm} {α : Type} {Q : α → sProp 𝕄} {k' : PUnit → Prog (TpuEff nD τ sig (Elt F) Λ₀ .tc) α} :
    (iprop(∃ V, ctP c V) : sProp 𝕄) ⊢ iprop((ctP c w -∗ WP c (k' ⟨⟩) Q)
      -∗ WP c (.op (.store ctM (Rect.unit (s := S1024x1024) ![0, 0] S1024x1024.size inb_S1024x1024_S1024x1024_0_0) w Finset.univ hx hm) k') Q) := by
  unfold ctP
  iintro ⟨%V, H⟩ Hk
  iapply (wp_store 𝒱₀ (c : Thread nD τ) none Set.univ (m := ctM) (r := Rect.unit (s := S1024x1024) ![0, 0] S1024x1024.size inb_S1024x1024_S1024x1024_0_0) (Mk := Finset.univ) (Finset.subset_univ _)) $$ H
  iintro H
  rw [show (ctM.access (Rect.unit (s := S1024x1024) ![0, 0] S1024x1024.size inb_S1024x1024_S1024x1024_0_0)).write (Elt F) V w Finset.univ = w from
    Memref.write_access_unit_zero_univ (Elt F) cc0_scratch3 hz _ V w]
  iapply Hk
  iexact H

/-- The four narrowed expert weights. -/
abbrev wbS : Fin 4 → Memref sig .tc .vmem S1x512x1024 .bf16
  | 0 => wbM.slice (Rect.unit (s := S4x512x1024) ![0, 0, 0] S1x512x1024.size inb_S4x512x1024_S1x512x1024_0_0_0) (fun _ => rfl)
  | 1 => wbM.slice (Rect.unit (s := S4x512x1024) ![1, 0, 0] S1x512x1024.size inb_S4x512x1024_S1x512x1024_1_0_0) (fun _ => rfl)
  | 2 => wbM.slice (Rect.unit (s := S4x512x1024) ![2, 0, 0] S1x512x1024.size inb_S4x512x1024_S1x512x1024_2_0_0) (fun _ => rfl)
  | 3 => wbM.slice (Rect.unit (s := S4x512x1024) ![3, 0, 0] S1x512x1024.size inb_S4x512x1024_S1x512x1024_3_0_0) (fun _ => rfl)
def ownW (c : Dev nD) (j : Fin 4) (V : FVec F S1x512x1024 .bf16) : sProp 𝕄 := owns (c : Thread nD τ) (wbS j) fullShare V
def weights (c : Dev nD) : sProp 𝕄 := iprop(ownW c 0 (eb0 m c) ∗ ownW c 1 (eb1 m c) ∗ ownW c 2 (eb2 m c) ∗ ownW c 3 (eb3 m c))

theorem slot_of_ownX (c : Dev nD) (s : Bool) (V) : ownX (F := F) c s V ⊢ slotX c s := by
  unfold ownX slotX owns slot
  iintro ⟨%f, -, H⟩
  iexists f; iexact H
theorem slot_of_ownM (c : Dev nD) (s : Bool) (V) : ownM (F := F) c s V ⊢ slotM c s := by
  unfold ownM slotM owns slot
  iintro ⟨%f, -, H⟩
  iexists f; iexact H
theorem slot_of_ownA (c : Dev nD) (s : Bool) (V) : ownA (F := F) c s V ⊢ slotA c s := by
  unfold ownA slotA owns slot
  iintro ⟨%f, -, H⟩
  iexists f; iexact H

theorem pos_dup (c : Dev nD) (k : CK) (n : ℕ) : pos (F := F) c k n ⊢ iprop(pos c k n ∗ reached ER (cell c k) n) := by
  unfold pos
  iintro ⟨H, #Hr⟩
  isplitl [H]
  · isplitl [H]; · iexact H
    iexact Hr
  iexact Hr

/-! ## What a hop needs, in groups -/

theorem sl_succ (h : ℕ) : sl (h + 1) = !sl h := by
  unfold sl; rcases Nat.mod_two_eq_zero_or_one h with e | e <;> simp [Nat.add_mod, e]

/-- Done giving slots back before hop `h`. -/
def RelD (c : Dev nD) (h : ℕ) : sProp 𝕄 :=
  iprop(pos c (.xs (!sl h)) ((h + 1) / 2) ∗ pos c (.ms (!sl h)) ((h + 1) / 2) ∗ pos c (.as (!sl h)) ((h + 1) / 2)
    ∗ readerAt ES (c, !sl h) (h / 2 + 1) ∗ heard (accFact (F := F) c) (Finset.range (h + 1)))
/-- To give slots back before hop `h`. -/
def Rel (c : Dev nD) : ℕ → sProp 𝕄
  | 0 => RelD c 0
  | h + 1 => iprop(cred (tl c (.xs (sl h)) 0) ∗ cred (tl c (.ms (sl h)) 0) ∗ cred (tl c (.as (sl h)) 0)
      ∗ pos c (.xs (sl h)) (h / 2) ∗ pos c (.ms (sl h)) (h / 2) ∗ pos c (.as (sl h)) (h / 2)
      ∗ dutyTok ER (cell (prv c) .xc) (h + 1) 0 ∗ dutyTok ER (cell (prv c) .ac) 0 (h + 1) ∗ reached ER (cell (prv c) .xc) (h + 1)
      ∗ readerAt ES (c, sl h) ((h + 1) / 2) ∗ heard (accFact (F := F) c) (Finset.range (h + 1))
      ∗ reached ER (cell c (.xr (sl h))) ((h + 1) / 2) ∗ reached ER (cell c (.mr (sl h))) ((h + 1) / 2) ∗ reached ER (cell c (.ar (sl h))) ((h + 1) / 2))
def OweB (c : Dev nD) : ℕ → sProp 𝕄
  | 0 => Owe c (OF c 1 + O3 c 0)
  | h + 1 => Owe c (OF c (h + 1))

def SendX (c : Dev nD) (h : ℕ) : sProp 𝕄 :=
  iprop(cred (tl c .xc h) ∗ pos c .xc h ∗ pos c (.xs (sl h)) (h / 2) ∗ ownX c (sl h) (X m (back c h))
    ∗ dutyTok ER (cell c (.xs (sl h))) (h / 2) 0 ∗ dutyTok ER (cell (nxt c) (.xr (!sl h))) (h / 2) 0)
/-- After the tokens are sent, to send the records. -/
def SendM (c : Dev nD) (h : ℕ) : sProp 𝕄 :=
  iprop(pos c (.ms (sl h)) (h / 2) ∗ ownM c (sl h) (Mt m (back c h))
    ∗ dutyTok ER (cell c (.ms (sl h))) (h / 2) 0 ∗ dutyTok ER (cell (nxt c) (.mr (!sl h))) (h / 2) 0)
def SentX (c : Dev nD) (h : ℕ) : sProp 𝕄 := iprop(pos c .xc (h + 1) ∗ cred (tl c (.xs (sl h)) 0) ∗ pos c (.xs (sl h)) (h / 2))
/-- What hop `h`'s credit brings for the records' copy. -/
def CreM (c : Dev nD) (h : ℕ) : sProp 𝕄 := iprop(slotM (nxt c) (!sl h) ∗ reached ER (cell (nxt c) (.mr (!sl h))) (h / 2))
def SentM (c : Dev nD) (h : ℕ) : sProp 𝕄 := iprop(cred (tl c (.ms (sl h)) 0) ∗ pos c (.ms (sl h)) (h / 2))

def AccD (c : Dev nD) (h : ℕ) : sProp 𝕄 := iprop(pos c (.ar (sl h)) ((h + 1) / 2) ∗ ownA c (sl h) (A m h c) ∗ ∃ V, ctP c V)
def Acc (c : Dev nD) : ℕ → sProp 𝕄
  | 0 => AccD m c 0
  | h + 1 => iprop(pos c (.ar (!sl h)) (h / 2) ∗ cred (tl c (.ar (!sl h)) h) ∗ ∃ V, ⌜h + 1 < 32 → V = Ctr m c (h + 1)⌝ ∗ ctP c V)

def SendA (c : Dev nD) (h : ℕ) : sProp 𝕄 :=
  iprop(cred (tl c .ac h) ∗ acPos c h ∗ pos c (.as (sl h)) (h / 2) ∗ dutyTok ER (cell c (.as (sl h))) (h / 2) 0
    ∗ dutyTok ER (cell (nxt c) (.ar (!sl h))) (h / 2) 0 ∗ writeTok ES (nxt c, !sl h) (h / 2 + 1))
def SentA (c : Dev nD) (h : ℕ) : sProp 𝕄 := iprop(acPos c (h + 1) ∗ cred (tl c (.as (sl h)) 0) ∗ pos c (.as (sl h)) (h / 2))

def RecvX (c : Dev nD) (h : ℕ) : sProp 𝕄 := iprop(cred (tl c (.xr (!sl h)) h) ∗ pos c (.xr (!sl h)) (h / 2))
def RecvM (c : Dev nD) (h : ℕ) : sProp 𝕄 := iprop(cred (tl c (.mr (!sl h)) h) ∗ pos c (.mr (!sl h)) (h / 2))
def GotX (c : Dev nD) (h : ℕ) : sProp 𝕄 :=
  iprop(pos c (.xr (!sl h)) (h / 2 + 1) ∗ ownX c (!sl h) (X m (back c (h + 1))) ∗ reached ER (cell (prv c) .xc) (h + 1))
def GotM (c : Dev nD) (h : ℕ) : sProp 𝕄 := iprop(pos c (.mr (!sl h)) (h / 2 + 1) ∗ ownM c (!sl h) (Mt m (back c (h + 1))))
/-- The share computed in hop `h`, for the next hop. -/
def Got (c : Dev nD) (h : ℕ) : sProp 𝕄 := iprop(∃ V, ⌜h + 1 < 32 → V = Ctr m c (h + 1)⌝ ∗ ctP c V)

def hopRes (c : Dev nD) (h : ℕ) : sProp 𝕄 :=
  iprop((cred (tl c .xc h) ∗ cred (tl c .ac h) ∗ cred (tl c (.xr (!sl h)) h) ∗ cred (tl c (.mr (!sl h)) h) ∗ cred (tl c (.ar (!sl h)) h))
    ∗ (dutyTok ER (cell c (.xs (sl h))) (h / 2) 0 ∗ dutyTok ER (cell c (.ms (sl h))) (h / 2) 0 ∗ dutyTok ER (cell c (.as (sl h))) (h / 2) 0)
    ∗ (dutyTok ER (cell (nxt c) (.xr (!sl h))) (h / 2) 0 ∗ dutyTok ER (cell (nxt c) (.mr (!sl h))) (h / 2) 0 ∗ dutyTok ER (cell (nxt c) (.ar (!sl h))) (h / 2) 0)
    ∗ writeTok ES (nxt c, !sl h) (h / 2 + 1))
def hopSig (c : Dev nD) (h : ℕ) : sProp 𝕄 := iprop(dutyTok ER (cell (prv c) .xc) h 0 ∗ dutyTok ER (cell (prv c) .ac) 0 h)
def later (c : Dev nD) (h : ℕ) : sProp 𝕄 := bigSep (Finset.Ico h 32) (fun j => iprop(hopRes c j ∗ hopSig (F := F) c j))

def Rest (c : Dev nD) (h : ℕ) : sProp 𝕄 :=
  iprop(pos c (.xr (sl h)) ((h + 1) / 2) ∗ pos c (.mr (sl h)) ((h + 1) / 2) ∗ pos c (.ar (!sl h)) (h / 2) ∗ cred (tl c (.ar (!sl h)) h)
    ∗ readerAt ES (c, sl h) ((h + 1) / 2) ∗ later c (h + 1))

/-- Before hop `h`, and after it. -/
def Pre (c : Dev nD) (h : ℕ) : sProp 𝕄 :=
  iprop(OweB c h ∗ Rel c h ∗ SendX m c h ∗ SendM m c h ∗ Acc m c h ∗ SendA c h ∗ RecvX c h ∗ RecvM c h ∗ Rest c h ∗ weights m c)
def Post (c : Dev nD) (h : ℕ) : sProp 𝕄 :=
  iprop(Owe c (OF c (h + 1)) ∗ RelD c h ∗ SentX c h ∗ SentM c h ∗ pos c (.ar (sl h)) ((h + 1) / 2) ∗ SentA c h ∗ GotX m c h ∗ GotM m c h ∗ Got m c h
    ∗ Rest c h ∗ weights m c)

set_option maxHeartbeats 1000000 in
/-- What hop `h` leaves is what hop `h + 1` needs. -/
theorem next (c : Dev nD) (h : ℕ) (hh : h + 1 < 32) : Post m c h ⊢ Pre m c (h + 1) := by
  unfold Post Pre RelD SentX SentM SentA GotX GotM Got Rest later
  rw [Idealize.SL.BI.bigSep_Ico_succ_bot hh]
  unfold SendX SendM SendA RecvX RecvM hopRes hopSig
  simp only [OweB, Rel, Acc]
  rw [sl_succ, Bool.not_not, show (h + 1 + 1) / 2 = h / 2 + 1 by omega]
  iintro ⟨Ho, ⟨Hxs, Hms, Has, Hrd, Hhe⟩, ⟨Hxc, Hcxs, Hpxs⟩, ⟨Hcms, Hpms⟩, Hars, ⟨Hac, Hcas, Hpas⟩, ⟨Hxr, Hx, Hrc⟩, ⟨Hmr, Hm⟩, Hct,
    ⟨Hxrs, Hmrs, Harr, Hcar, Hrds, ⟨⟨⟨⟨Hc1, Hc2, Hc3, Hc4, Hc5⟩, ⟨Ht1, Ht2, Ht3⟩, ⟨Hn1, Hn2, Hn3⟩, Hwt⟩, ⟨Hs1, Hs2⟩⟩, Hl⟩⟩, Hw⟩
  ihave H1 := (pos_dup c (.xr (sl h)) ((h + 1) / 2)) $$ Hxrs
  ihave H2 := (pos_dup c (.mr (sl h)) ((h + 1) / 2)) $$ Hmrs
  ihave H3 := (pos_dup c (.ar (sl h)) ((h + 1) / 2)) $$ Hars
  icases H1 with ⟨Hxrs, Hq1⟩
  icases H2 with ⟨Hmrs, Hq2⟩
  icases H3 with ⟨Hars, Hq3⟩
  isplitl [Ho]; · iexact Ho
  isplitl [Hcxs Hcms Hcas Hpxs Hpms Hpas Hs1 Hs2 Hrc Hrds Hhe Hq1 Hq2 Hq3]
  · isplitl [Hcxs]; · iexact Hcxs
    isplitl [Hcms]; · iexact Hcms
    isplitl [Hcas]; · iexact Hcas
    isplitl [Hpxs]; · iexact Hpxs
    isplitl [Hpms]; · iexact Hpms
    isplitl [Hpas]; · iexact Hpas
    isplitl [Hs1]; · iexact Hs1
    isplitl [Hs2]; · iexact Hs2
    isplitl [Hrc]; · iexact Hrc
    isplitl [Hrds]; · iexact Hrds
    isplitl [Hhe]; · iexact Hhe
    isplitl [Hq1]; · iexact Hq1
    isplitl [Hq2]; · iexact Hq2
    iexact Hq3
  isplitl [Hc1 Hxc Hxs Hx Ht1 Hn1]
  · isplitl [Hc1]; · iexact Hc1
    isplitl [Hxc]; · iexact Hxc
    isplitl [Hxs]; · iexact Hxs
    isplitl [Hx]; · iexact Hx
    isplitl [Ht1]; · iexact Ht1
    iexact Hn1
  isplitl [Hms Hm Ht2 Hn2]
  · isplitl [Hms]; · iexact Hms
    isplitl [Hm]; · iexact Hm
    isplitl [Ht2]; · iexact Ht2
    iexact Hn2
  isplitl [Harr Hcar Hct]
  · isplitl [Harr]; · iexact Harr
    isplitl [Hcar]; · iexact Hcar
    iexact Hct
  isplitl [Hc2 Hac Has Ht3 Hn3 Hwt]
  · isplitl [Hc2]; · iexact Hc2
    isplitl [Hac]; · iexact Hac
    isplitl [Has]; · iexact Has
    isplitl [Ht3]; · iexact Ht3
    isplitl [Hn3]; · iexact Hn3
    iexact Hwt
  isplitl [Hc3 Hxrs]
  · isplitl [Hc3]; · iexact Hc3
    iexact Hxrs
  isplitl [Hc4 Hmrs]
  · isplitl [Hc4]; · iexact Hc4
    iexact Hmrs
  isplitl [Hxr Hmr Hars Hc5 Hrd Hl]
  · isplitl [Hxr]; · iexact Hxr
    isplitl [Hmr]; · iexact Hmr
    isplitl [Hars]; · iexact Hars
    isplitl [Hc5]; · iexact Hc5
    isplitl [Hrd]; · iexact Hrd
    iexact Hl
  iexact Hw

end Cert.KernelIdeal.RingProof

end
-- ==== Proof.Ideal.Hop.lean ====
/-
The steps of one hop, each as one rule.
-/
module

public import proofs.«01_k».proof.Proof.Ideal.Mem

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

theorem ret_WP (c : Dev nD) {α : Type} {a : α} {Q : α → sProp 𝕄} : Q a ⊢ WP c (.ret a) Q := by
  exact fupd_intro
/-- A part of the program, and what follows it. -/
theorem seq_WP (c : Dev nD) {α β : Type} {p : Prog (TpuEff nD τ sig (Elt F) Λ₀ .tc) α} {k : α → Prog (TpuEff nD τ sig (Elt F) Λ₀ .tc) β}
    {Φ : α → sProp 𝕄} {Q : β → sProp 𝕄} (P : sProp 𝕄) (hp : P ⊢ WP c p Φ) :
    P ⊢ iprop((∀ a, Φ a -∗ WP c (k a) Q) -∗ WP c (p >>= k) Q) := by
  iintro HP Hk
  have e : WP c (p >>= k) Q = WP c p (fun a => WP c (k a) Q) := Idealize.SL.Sem.wp_bind _ _ _ p k Q
  rw [e]
  iapply (wp_wand_r _ _ Set.univ (p := p))
  isplitl [HP]
  · iapply hp; iexact HP
  iexact Hk

/-- The credit for hop `h` and the copy of its tokens. -/
theorem hop_x (c n : Dev nD) (hn : n = nxt c) (h : ℕ) (hh : h < 32) (s t : Bool) (hs : s = sl h) (ht : t = !sl h) {a : ℕ} (ha : a = 1)
    {hsc : (xqM t).view.ref.isScScratch = false} {hsrc : (xqM s).view.WordExact} {hdst : (xqM t).view.WordExact}
    {hsem : DmaTarget.Typed .vmem (.dma (at2 cc0_scratch5 t)) (.remote (n : Thread nD τ) (xqM t) (.dma (at2 cc0_scratch4 s)) hsc)}
    {α : Type} {Q : α → sProp 𝕄} {k' : PUnit → Prog (TpuEff nD τ sig (Elt F) Λ₀ .tc) α} :
    iprop(recs m K ∗ Owe c (OF c (h + 1) + O3 c h) ∗ SendX m c h)
      ⊢ iprop(((Owe c (OF c (h + 1) + (tl (nxt c) (.ar (!sl h)) h + tl (nxt c) (.mr (!sl h)) h)) ∗ SentX c h ∗ CreM c h) -∗ WP c (k' ⟨⟩) Q)
        -∗ WP c (.op (.semWait (cc0_scratch10 : Sems sig S_).sem a) fun _ =>
          .op (.enqueueDma (xqM s) (.remote (n : Thread nD τ) (xqM t) (.dma (at2 cc0_scratch4 s)) hsc) (.dma (at2 cc0_scratch5 t)) hsrc hdst hsem) k') Q) := by
  subst hs ht
  unfold SendX SentX CreM
  iintro ⟨#Hr, Ho, ⟨Hc, Hpc, Hps, Hx, Ht1, Ht2⟩⟩ Hk
  iapply (wait_xc m K c h hh _ ((above_OF c (h := h + 1) (by omega)).add (above_O3 c hh (by omega))) ha) $$ [Hc Ho Hpc]
  · isplitr; · iexact Hr
    isplitl [Hc]; · iexact Hc
    isplitl [Ho]; · iexact Ho
    iexact Hpc
  iintro ⟨Ho, Hpc, Hcre⟩
  unfold creditPay
  icases Hcre with ⟨Hsx, Hsm, Hrx, Hrm⟩
  ihave H1 := (pos_dup c .xc (h + 1)) $$ Hpc
  icases H1 with ⟨Hpc, Hqc⟩
  ihave H2 := (pos_dup c (.xs (sl h)) (h / 2)) $$ Hps
  icases H2 with ⟨Hps, Hqs⟩
  ihave Ho := (Entails.of_eq (show Owe (F := F) c (OF c (h + 1) + O3 c h)
    = Owe c (OF c (h + 1) + (tl (nxt c) (.ar (!sl h)) h + tl (nxt c) (.mr (!sl h)) h) + tl (nxt c) (.xr (!sl h)) h) by rw [O3, ← add_assoc])) $$ Ho
  iapply (send_x m K c n hn h hh (sl h) (!sl h) rfl rfl _) $$ [Hx Hsx Hqc Ho Ht1 Hqs Ht2 Hrx]
  · isplitr; · iexact Hr
    isplitl [Hx]; · iexact Hx
    isplitl [Hsx]; · iexact Hsx
    isplitl [Hqc]; · iexact Hqc
    isplitl [Ho]; · iexact Ho
    isplitl [Ht1]; · iexact Ht1
    isplitl [Hqs]; · iexact Hqs
    isplitl [Ht2]; · iexact Ht2
    iexact Hrx
  iintro ⟨Hcs, Ho⟩
  iapply Hk
  isplitl [Ho]; · iexact Ho
  isplitl [Hpc Hcs Hps]
  · isplitl [Hpc]; · iexact Hpc
    isplitl [Hcs]; · iexact Hcs
    iexact Hps
  isplitl [Hsm]; · iexact Hsm
  iexact Hrm

/-- The copy of hop `h`'s gate records. -/
theorem hop_m (c n : Dev nD) (hn : n = nxt c) (h : ℕ) (hh : h < 32) (s t : Bool) (hs : s = sl h) (ht : t = !sl h)
    {hsc : (mqM t).view.ref.isScScratch = false} {hsrc : (mqM s).view.WordExact} {hdst : (mqM t).view.WordExact}
    {hsem : DmaTarget.Typed .vmem (.dma (at2 cc0_scratch7 t)) (.remote (n : Thread nD τ) (mqM t) (.dma (at2 cc0_scratch6 s)) hsc)}
    {α : Type} {Q : α → sProp 𝕄} {k' : PUnit → Prog (TpuEff nD τ sig (Elt F) Λ₀ .tc) α} :
    iprop(recs m K ∗ Owe c (OF c (h + 1) + (tl (nxt c) (.ar (!sl h)) h + tl (nxt c) (.mr (!sl h)) h)) ∗ SendM m c h ∗ CreM c h)
      ⊢ iprop(((Owe c (OF c (h + 1) + tl (nxt c) (.ar (!sl h)) h) ∗ SentM c h) -∗ WP c (k' ⟨⟩) Q)
        -∗ WP c (.op (.enqueueDma (mqM s) (.remote (n : Thread nD τ) (mqM t) (.dma (at2 cc0_scratch6 s)) hsc) (.dma (at2 cc0_scratch7 t)) hsrc hdst hsem) k') Q) := by
  subst hs ht
  unfold SendM SentM CreM
  iintro ⟨#Hr, Ho, ⟨Hps, Hx, Ht1, Ht2⟩, ⟨Hsx, Hrx⟩⟩ Hk
  ihave H2 := (pos_dup c (.ms (sl h)) (h / 2)) $$ Hps
  icases H2 with ⟨Hps, Hqs⟩
  ihave Ho := (Entails.of_eq (show Owe (F := F) c (OF c (h + 1) + (tl (nxt c) (.ar (!sl h)) h + tl (nxt c) (.mr (!sl h)) h))
    = Owe c (OF c (h + 1) + tl (nxt c) (.ar (!sl h)) h + tl (nxt c) (.mr (!sl h)) h) by rw [add_assoc])) $$ Ho
  iapply (send_m m K c n hn h hh (sl h) (!sl h) rfl rfl _) $$ [Hx Hsx Ho Ht1 Hqs Ht2 Hrx]
  · isplitr; · iexact Hr
    isplitl [Hx]; · iexact Hx
    isplitl [Hsx]; · iexact Hsx
    isplitl [Ho]; · iexact Ho
    isplitl [Ht1]; · iexact Ht1
    isplitl [Hqs]; · iexact Hqs
    isplitl [Ht2]; · iexact Ht2
    iexact Hrx
  iintro ⟨Hcs, Ho⟩
  iapply Hk
  isplitl [Ho]; · iexact Ho
  isplitl [Hcs]; · iexact Hcs
  iexact Hps

/-- The accumulator's credit for hop `h` and its copy. -/
theorem hop_a (c n : Dev nD) (hn : n = nxt c) (h : ℕ) (hh : h < 32) (s t : Bool) (hs : s = sl h) (ht : t = !sl h) {a : ℕ} (ha : a = 1)
    {hsc : (aqM t).view.ref.isScScratch = false} {hsrc : (aqM s).view.WordExact} {hdst : (aqM t).view.WordExact}
    {hsem : DmaTarget.Typed .vmem (.dma (at2 cc0_scratch9 t)) (.remote (n : Thread nD τ) (aqM t) (.dma (at2 cc0_scratch8 s)) hsc)}
    {α : Type} {Q : α → sProp 𝕄} {k' : PUnit → Prog (TpuEff nD τ sig (Elt F) Λ₀ .tc) α} :
    iprop(recs m K ∗ Owe c (OF c (h + 1) + tl (nxt c) (.ar (!sl h)) h) ∗ SendA c h ∗ ownA c (sl h) (A m h c))
      ⊢ iprop(((Owe c (OF c (h + 1)) ∗ SentA c h) -∗ WP c (k' ⟨⟩) Q)
        -∗ WP c (.op (.semWait (cc0_scratch11 : Sems sig S_).sem a) fun _ =>
          .op (.enqueueDma (aqM s) (.remote (n : Thread nD τ) (aqM t) (.dma (at2 cc0_scratch8 s)) hsc) (.dma (at2 cc0_scratch9 t)) hsrc hdst hsem) k') Q) := by
  subst hs ht
  unfold SendA SentA
  iintro ⟨#Hr, Ho, ⟨Hc, Hpc, Hps, Ht1, Ht2, Hwt⟩, Hx⟩ Hk
  iapply (wait_ac m K c h hh _ ((above_OF c (h := h + 1) (by omega)).add (Above.tl (k := .ar (!sl h)) hh (by show 2 * h + 2 < 2 * h + 3; omega))) ha) $$ [Hc Ho Hpc]
  · isplitr; · iexact Hr
    isplitl [Hc]; · iexact Hc
    isplitl [Ho]; · iexact Ho
    iexact Hpc
  iintro ⟨Ho, Hpc, Hf⟩
  unfold accFact
  icases Hf with ⟨#Hrel, #Hra⟩
  ihave #Hs := (recs_slot m K (nxt c) (!sl h)) $$ Hr
  imod (slot_take (E := ES (F := F)) (k := (nxt c, !sl h)) (S := slotA (F := F) (nxt c) (!sl h)) (Set.mem_univ (K.slot (nxt c, !sl h))) (h / 2 + 1)) $$ [Hwt] with Hsx
  · isplitr; · iexact Hs
    isplitr; · iexact Hrel
    iexact Hwt
  ihave H2 := (pos_dup c (.as (sl h)) (h / 2)) $$ Hps
  icases H2 with ⟨Hps, Hqs⟩
  iapply (send_a m K c n hn h hh (sl h) (!sl h) rfl rfl _) $$ [Hx Hsx Ho Ht1 Hqs Ht2]
  · isplitr; · iexact Hr
    isplitl [Hx]; · iexact Hx
    isplitl [Hsx]; · iexact Hsx
    isplitl [Ho]; · iexact Ho
    isplitl [Ht1]; · iexact Ht1
    isplitl [Hqs]; · iexact Hqs
    isplitl [Ht2]; · iexact Ht2
    iexact Hra
  iintro ⟨Hcs, Ho⟩
  iapply Hk
  isplitl [Ho]; · iexact Ho
  isplitl [Hpc]; · iexact Hpc
  isplitl [Hcs]; · iexact Hcs
  iexact Hps

section
variable {src dst : Memref sig .tc .vmem S1024x512 .bf16} {src' : Memref sig .tc .vmem S8x1024 .bf16} {src'' : Memref sig .tc .vmem S1024x1024 .bf16}

/-- The previous hop's slots are back: they are given to the previous device for its hop `h + 1`. -/
theorem hop_rel (c n n' : Dev nD) (hn : n = prv c) (hn' : n' = prv c) (h : ℕ) (hh : h + 1 < 32) (s t t' t'' : Bool) (hs : s = sl h) {a a' : ℕ} (ha : 1 = a) (ha' : 1 = a')
    {h₁ : src.view.WordExact} {h₂ : (xqM t).view.WordExact} {h₃ : src'.view.WordExact} {h₄ : (mqM t').view.WordExact} {h₅ : src''.view.WordExact} {h₆ : (aqM t'').view.WordExact}
    {α : Type} {Q : α → sProp 𝕄} {k' : PUnit → Prog (TpuEff nD τ sig (Elt F) Λ₀ .tc) α} :
    iprop(recs m K ∗ OweB c (h + 1) ∗ Rel c (h + 1))
      ⊢ iprop(((Owe c (OF c (h + 1 + 1) + O3 c (h + 1)) ∗ RelD c (h + 1)) -∗ WP c (k' ⟨⟩) Q)
        -∗ WP c (.op (.waitDma2 (at2 cc0_scratch4 s) src (xqM t) h₁ h₂) fun _ => .op (.waitDma2 (at2 cc0_scratch6 s) src' (mqM t') h₃ h₄) fun _ =>
          .op (.semSignal (n : Thread nD τ) (cc0_scratch10 : Sems sig S_).sem a) fun _ => .op (.waitDma2 (at2 cc0_scratch8 s) src'' (aqM t'') h₅ h₆) fun _ =>
          .op (.semSignal (n' : Thread nD τ) (cc0_scratch11 : Sems sig S_).sem a') k') Q) := by
  subst hs
  unfold RelD
  simp only [OweB, Rel]
  rw [sl_succ, Bool.not_not, show (h + 1 + 1) / 2 = h / 2 + 1 by omega]
  iintro ⟨#Hr, Ho, ⟨Hcx, Hcm, Hca, Hpx, Hpm, Hpa, Htx, Hta, Hrc, Hrd, Hhe, Hrx, Hrm, Hra⟩⟩ Hk
  have e1 : Owe (F := F) c (OF c (h + 1)) = Owe c (OF c (h + 1 + 1) + O3 c (h + 1) + tl (prv c) .ac (h + 1) + tl (prv c) .xc (h + 1)) := by
    rw [OF_succ c hh, O5, ← add_assoc, ← add_assoc]
  have e2 : sl h = !sl (h + 1) := by rw [sl_succ, Bool.not_not]
  have a0 : Above 0 (OF c (h + 1 + 1) + O3 c (h + 1) + tl (prv c) .ac (h + 1)) :=
    ((above_OF c (by omega)).add (above_O3 c hh (by omega))).add (Above.tl hh (Nat.succ_pos _))
  iapply (wait_xs m K c (sl h) t h (OF c (h + 1)) rfl (by omega) (above_OF c (by omega))) $$ [Hcx Ho Hpx]
  · isplitr; · iexact Hr
    isplitl [Hcx]; · iexact Hcx
    isplitl [Ho]; · iexact Ho
    iexact Hpx
  iintro ⟨Ho, Hpx, Hx⟩
  ihave Hx := (Entails.of_eq (pay_xs m c h 0)) $$ Hx
  iapply (wait_ms m K c (sl h) t' h (OF c (h + 1)) rfl (by omega) (above_OF c (by omega))) $$ [Hcm Ho Hpm]
  · isplitr; · iexact Hr
    isplitl [Hcm]; · iexact Hcm
    isplitl [Ho]; · iexact Ho
    iexact Hpm
  iintro ⟨Ho, Hpm, Hm⟩
  ihave Hm := (Entails.of_eq (pay_ms m c h 0)) $$ Hm
  ihave Ho := (Entails.of_eq e1) $$ Ho
  iapply (signal_xc m K c n hn (h + 1) hh _ ha) $$ [Ho Htx Hrc Hx Hm Hrx Hrm]
  · isplitr; · iexact Hr
    isplitl [Ho]; · iexact Ho
    isplitl [Htx]; · iexact Htx
    isplitl [Hrc]; · iexact Hrc
    rw [sl_succ, Bool.not_not]
    isplitl [Hx]
    · iapply (slot_of_ownX c (sl h) _); iexact Hx
    isplitl [Hm]
    · iapply (slot_of_ownM c (sl h) _); iexact Hm
    isplitl [Hrx]; · iexact Hrx
    iexact Hrm
  iintro Ho
  iapply (wait_as m K c (sl h) t'' h _ rfl (by omega) a0) $$ [Hca Ho Hpa]
  · isplitr; · iexact Hr
    isplitl [Hca]; · iexact Hca
    isplitl [Ho]; · iexact Ho
    iexact Hpa
  iintro ⟨Ho, Hpa, Ha⟩
  ihave Ha := (Entails.of_eq (pay_as m c h 0)) $$ Ha
  iapply (signal_ac m K c n' hn' (h + 1) hh _ ha') $$ [Ho Hta Ha Hrd Hra Hhe]
  · isplitr; · iexact Hr
    isplitl [Ho]; · iexact Ho
    isplitl [Hta]; · iexact Hta
    rw [sl_succ, Bool.not_not]
    isplitl [Ha]
    · iapply (slot_of_ownA c (sl h) _); iexact Ha
    isplitl [Hrd]; · iexact Hrd
    isplitl [Hra]; · iexact Hra
    iexact Hhe
  rw [sl_succ, Bool.not_not]
  iintro ⟨Ho, Hrd, Hhe⟩
  iapply Hk
  isplitl [Ho]; · iexact Ho
  isplitl [Hpx]; · iexact Hpx
  isplitl [Hpm]; · iexact Hpm
  isplitl [Hpa]; · iexact Hpa
  isplitl [Hrd]; · iexact Hrd
  iexact Hhe

/-- What hop `h` lands: the tokens, then the records. -/
theorem hop_rx (c : Dev nD) (h : ℕ) (hh : h < 32) (s t : Bool) (hs : s = !sl h) {h₁ : src.view.WordExact} {h₂ : (xqM t).view.WordExact}
    {α : Type} {Q : α → sProp 𝕄} {k' : PUnit → Prog (TpuEff nD τ sig (Elt F) Λ₀ .tc) α} :
    iprop(recs m K ∗ Owe c (OF c (h + 1)) ∗ RecvX c h)
      ⊢ iprop(((Owe c (OF c (h + 1)) ∗ GotX m c h) -∗ WP c (k' ⟨⟩) Q) -∗ WP c (.op (.waitDma2 (at2 cc0_scratch5 s) src (xqM t) h₁ h₂) k') Q) := by
  subst hs
  unfold RecvX GotX
  iintro ⟨#Hr, Ho, ⟨Hc, Hp⟩⟩ Hk
  iapply (wait_xr m K c (!sl h) t h _ hh (above_OF c (h := h + 1) (by omega))) $$ [Hc Ho Hp]
  · isplitr; · iexact Hr
    isplitl [Hc]; · iexact Hc
    isplitl [Ho]; · iexact Ho
    iexact Hp
  rw [pay_xr]
  iintro ⟨Ho, Hp, ⟨Hx, Hre⟩⟩
  iapply Hk
  isplitl [Ho]; · iexact Ho
  isplitl [Hp]; · iexact Hp
  isplitl [Hx]; · iexact Hx
  iexact Hre
theorem hop_rm (c : Dev nD) (h : ℕ) (hh : h < 32) (s t : Bool) (hs : s = !sl h) {h₁ : src'.view.WordExact} {h₂ : (mqM t).view.WordExact}
    {α : Type} {Q : α → sProp 𝕄} {k' : PUnit → Prog (TpuEff nD τ sig (Elt F) Λ₀ .tc) α} :
    iprop(recs m K ∗ Owe c (OF c (h + 1)) ∗ RecvM c h)
      ⊢ iprop(((Owe c (OF c (h + 1)) ∗ GotM m c h) -∗ WP c (k' ⟨⟩) Q) -∗ WP c (.op (.waitDma2 (at2 cc0_scratch7 s) src' (mqM t) h₁ h₂) k') Q) := by
  subst hs
  unfold RecvM GotM
  iintro ⟨#Hr, Ho, ⟨Hc, Hp⟩⟩ Hk
  iapply (wait_mr m K c (!sl h) t h _ hh (above_OF c (h := h + 1) (by omega))) $$ [Hc Ho Hp]
  · isplitr; · iexact Hr
    isplitl [Hc]; · iexact Hc
    isplitl [Ho]; · iexact Ho
    iexact Hp
  rw [pay_mr]
  iintro ⟨Ho, Hp, Hx⟩
  iapply Hk
  isplitl [Ho]; · iexact Ho
  isplitl [Hp]; · iexact Hp
  iexact Hx

/-- The accumulator that hop `h` landed. -/
theorem hop_ra (c : Dev nD) (h : ℕ) (hh : h < 32) (O : CT) (hO : Above (2 * h + 3) O) (s t : Bool) (hs : s = !sl h) {h₁ : src''.view.WordExact} {h₂ : (aqM t).view.WordExact}
    {α : Type} {Q : α → sProp 𝕄} {k' : PUnit → Prog (TpuEff nD τ sig (Elt F) Λ₀ .tc) α} :
    iprop(recs m K ∗ Owe c O ∗ pos c (.ar (!sl h)) (h / 2) ∗ cred (tl c (.ar (!sl h)) h))
      ⊢ iprop(((Owe c O ∗ pos c (.ar (!sl h)) (h / 2 + 1) ∗ ownA c s (A m h (prv c))) -∗ WP c (k' ⟨⟩) Q)
        -∗ WP c (.op (.waitDma2 (at2 cc0_scratch9 s) src'' (aqM t) h₁ h₂) k') Q) := by
  subst hs
  iintro ⟨#Hr, Ho, Hp, Hc⟩ Hk
  iapply (wait_ar m K c (!sl h) t h O hh hO) $$ [Hc Ho Hp]
  · isplitr; · iexact Hr
    isplitl [Hc]; · iexact Hc
    isplitl [Ho]; · iexact Ho
    iexact Hp
  rw [pay_ar]
  iintro ⟨Ho, Hp, Hx⟩
  iapply Hk
  isplitl [Ho]; · iexact Ho
  isplitl [Hp]; · iexact Hp
  iexact Hx

/-- A copy of the accumulator has landed in slot false: the share is added and the sum goes back to the slot. -/
theorem hop_acc_f (c : Dev nD) (h : ℕ) (hh : h + 1 < 32) (hs : false = sl (h + 1))
    {h₁ : src''.view.WordExact} {h₂ : (aqM false).view.WordExact} {hl₁ hl₂ hl₃}
    {hx : (pkM.access (Rect.unit (s := S2x1024x1536) ![0, 0, 512] S1x1024x1024.size inb_S2x1024x1536_S1x1024x1024_0_0_512)).Stores Finset.univ} {hm}
    {α : Type} {Q : α → sProp 𝕄} {k' : PUnit → Prog (TpuEff nD τ sig (Elt F) Λ₀ .tc) α} :
    iprop(recs m K ∗ Owe c (OF c (h + 1 + 1) + tl (nxt c) (.ar (!sl (h + 1))) (h + 1)) ∗ Acc m c (h + 1))
      ⊢ iprop(((Owe c (OF c (h + 1 + 1) + tl (nxt c) (.ar (!sl (h + 1))) (h + 1)) ∗ AccD m c (h + 1)) -∗ WP c (k' ⟨⟩) Q)
        -∗ WP c (.op (.waitDma2 (at2 cc0_scratch9 false) src'' (aqM false) h₁ h₂) fun _ =>
          .op (.load pkM (Rect.unit (s := S2x1024x1536) ![0, 0, 512] S1x1024x1024.size inb_S2x1024x1536_S1x1024x1024_0_0_512).toLoadRect hl₁ : TpuEff nD τ sig (Elt F) Λ₀ .tc ((Rect.unit (s := S2x1024x1536) ![0, 0, 512] S1x1024x1024.size inb_S2x1024x1536_S1x1024x1024_0_0_512).shape.Idx → Elt F .bf16)) fun v =>
          .op (.load ctM (Rect.unit (s := S1024x1024) ![0, 0] S1024x1024.size inb_S1024x1024_S1024x1024_0_0).toLoadRect hl₂ : TpuEff nD τ sig (Elt F) Λ₀ .tc ((Rect.unit (s := S1024x1024) ![0, 0] S1024x1024.size inb_S1024x1024_S1024x1024_0_0).shape.Idx → Elt F .f32)) fun u =>
          .op (.load pkM (Rect.unit (s := S2x1024x1536) ![0, 0, 512] S1x1024x1024.size inb_S2x1024x1536_S1x1024x1024_0_0_512).toLoadRect hl₃ : TpuEff nD τ sig (Elt F) Λ₀ .tc ((Rect.unit (s := S2x1024x1536) ![0, 0, 512] S1x1024x1024.size inb_S2x1024x1536_S1x1024x1024_0_0_512).shape.Idx → Elt F .bf16)) fun _ =>
          .op (.store pkM (Rect.unit (s := S2x1024x1536) ![0, 0, 512] S1x1024x1024.size inb_S2x1024x1536_S1x1024x1024_0_0_512) (k0_pay24 v u) Finset.univ hx hm) k') Q) := by
  have hsh : false = !sl h := by rw [hs, sl_succ]
  simp only [Acc]
  unfold AccD
  iintro ⟨#Hr, Ho, ⟨Hp, Hc, %V, %hV, Hct⟩⟩ Hk
  iapply (hop_ra m K c h (by omega) _ ((above_OF c (h := h + 1 + 1) (by omega)).add (Above.tl (k := .ar (!sl (h + 1))) hh (by show 2 * h + 3 < 2 * (h + 1) + 3; omega))) false false hsh) $$ [Ho Hp Hc]
  · isplitr; · iexact Hr
    isplitl [Ho]; · iexact Ho
    isplitl [Hp]; · iexact Hp
    iexact Hc
  iintro ⟨Ho, Hp, Ha⟩
  unfold ownA
  iapply (load_owns c (M := pkM) (hr := fun _ => rfl)) $$ Ha
  iintro Ha
  iapply (load_ct c) $$ Hct
  iintro Hct
  iapply (load_owns c (M := pkM) (hr := fun _ => rfl)) $$ Ha
  iintro Ha
  iapply (store_owns c (M := pkM) (hr := fun _ => rfl)) $$ [Ha]
  · iexists (A m h (prv c)); iexact Ha
  iintro Ha
  iapply Hk
  isplitl [Ho]; · iexact Ho
  rw [← hs, ← hsh, show (h + 1 + 1) / 2 = h / 2 + 1 by omega]
  isplitl [Hp]; · iexact Hp
  isplitl [Ha]
  · rw [hV hh]; iexact Ha
  iexists V; iexact Hct

/-- A copy of the accumulator has landed in slot true: the share is added and the sum goes back to the slot. -/
theorem hop_acc_t (c : Dev nD) (h : ℕ) (hh : h + 1 < 32) (hs : true = sl (h + 1))
    {h₁ : src''.view.WordExact} {h₂ : (aqM true).view.WordExact} {hl₁ hl₂ hl₃}
    {hx : (pkM.access (Rect.unit (s := S2x1024x1536) ![1, 0, 512] S1x1024x1024.size inb_S2x1024x1536_S1x1024x1024_1_0_512)).Stores Finset.univ} {hm}
    {α : Type} {Q : α → sProp 𝕄} {k' : PUnit → Prog (TpuEff nD τ sig (Elt F) Λ₀ .tc) α} :
    iprop(recs m K ∗ Owe c (OF c (h + 1 + 1) + tl (nxt c) (.ar (!sl (h + 1))) (h + 1)) ∗ Acc m c (h + 1))
      ⊢ iprop(((Owe c (OF c (h + 1 + 1) + tl (nxt c) (.ar (!sl (h + 1))) (h + 1)) ∗ AccD m c (h + 1)) -∗ WP c (k' ⟨⟩) Q)
        -∗ WP c (.op (.waitDma2 (at2 cc0_scratch9 true) src'' (aqM true) h₁ h₂) fun _ =>
          .op (.load pkM (Rect.unit (s := S2x1024x1536) ![1, 0, 512] S1x1024x1024.size inb_S2x1024x1536_S1x1024x1024_1_0_512).toLoadRect hl₁ : TpuEff nD τ sig (Elt F) Λ₀ .tc ((Rect.unit (s := S2x1024x1536) ![1, 0, 512] S1x1024x1024.size inb_S2x1024x1536_S1x1024x1024_1_0_512).shape.Idx → Elt F .bf16)) fun v =>
          .op (.load ctM (Rect.unit (s := S1024x1024) ![0, 0] S1024x1024.size inb_S1024x1024_S1024x1024_0_0).toLoadRect hl₂ : TpuEff nD τ sig (Elt F) Λ₀ .tc ((Rect.unit (s := S1024x1024) ![0, 0] S1024x1024.size inb_S1024x1024_S1024x1024_0_0).shape.Idx → Elt F .f32)) fun u =>
          .op (.load pkM (Rect.unit (s := S2x1024x1536) ![1, 0, 512] S1x1024x1024.size inb_S2x1024x1536_S1x1024x1024_1_0_512).toLoadRect hl₃ : TpuEff nD τ sig (Elt F) Λ₀ .tc ((Rect.unit (s := S2x1024x1536) ![1, 0, 512] S1x1024x1024.size inb_S2x1024x1536_S1x1024x1024_1_0_512).shape.Idx → Elt F .bf16)) fun _ =>
          .op (.store pkM (Rect.unit (s := S2x1024x1536) ![1, 0, 512] S1x1024x1024.size inb_S2x1024x1536_S1x1024x1024_1_0_512) (k0_pay26 v u) Finset.univ hx hm) k') Q) := by
  have hsh : true = !sl h := by rw [hs, sl_succ]
  simp only [Acc]
  unfold AccD
  iintro ⟨#Hr, Ho, ⟨Hp, Hc, %V, %hV, Hct⟩⟩ Hk
  iapply (hop_ra m K c h (by omega) _ ((above_OF c (h := h + 1 + 1) (by omega)).add (Above.tl (k := .ar (!sl (h + 1))) hh (by show 2 * h + 3 < 2 * (h + 1) + 3; omega))) true true hsh) $$ [Ho Hp Hc]
  · isplitr; · iexact Hr
    isplitl [Ho]; · iexact Ho
    isplitl [Hp]; · iexact Hp
    iexact Hc
  iintro ⟨Ho, Hp, Ha⟩
  unfold ownA
  iapply (load_owns c (M := pkM) (hr := fun _ => rfl)) $$ Ha
  iintro Ha
  iapply (load_ct c) $$ Hct
  iintro Hct
  iapply (load_owns c (M := pkM) (hr := fun _ => rfl)) $$ Ha
  iintro Ha
  iapply (store_owns c (M := pkM) (hr := fun _ => rfl)) $$ [Ha]
  · iexists (A m h (prv c)); iexact Ha
  iintro Ha
  iapply Hk
  isplitl [Ho]; · iexact Ho
  rw [← hs, ← hsh, show (h + 1 + 1) / 2 = h / 2 + 1 by omega]
  isplitl [Hp]; · iexact Hp
  isplitl [Ha]
  · rw [hV hh]; iexact Ha
  iexists V; iexact Hct
end

end Cert.KernelIdeal.RingProof

end
-- ==== Proof.Ideal.Even.lean ====
/-
The even hop of a trip.
-/
module

public import proofs.«01_k».proof.Proof.Ideal.Hop

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

theorem cond1 (t : Fin k0_t1_loop.trips) : k0_cond1 t = 1#1 ↔ 1 ≤ t.val := by revert t; decide +kernel
theorem cond2 (t : Fin k0_t1_loop.trips) : k0_cond2 t = 1#1 ↔ 1 ≤ t.val := by revert t; decide +kernel
theorem cond5 (t : Fin k0_t1_loop.trips) : k0_cond5 t = 1#1 := by revert t; decide +kernel
theorem cond6 (t : Fin k0_t1_loop.trips) : k0_cond6 t = 1#1 := by revert t; decide +kernel
/-- The even hop of trip `t`, as the program computes it. -/
abbrev ev (t : Fin k0_t1_loop.trips) : BitVec 32 := Scalar.muli 2#32 (Scf.iv 0#32 1#32 t)
theorem cond3 (t : Fin k0_t1_loop.trips) : Scalar.cmpi .ne (Scalar.extui (Scalar.cmpi .sge (ev t) 1#32) : BitVec 32) 0#32 = 1#1 ↔ 1 ≤ t.val := by revert t; decide +kernel
theorem cond4 (t : Fin k0_t1_loop.trips) : Scalar.cmpi .ne (Scalar.extui (Scalar.cmpi .sle (ev t) 30#32) : BitVec 32) 0#32 = 1#1 := by revert t; decide +kernel
abbrev od (t : Fin k0_t1_loop.trips) : BitVec 32 := Scalar.addi (ev t) 1#32
theorem cond7 (t : Fin k0_t1_loop.trips) : Scalar.cmpi .ne (Scalar.extui (Scalar.cmpi .sge (od t) 1#32) : BitVec 32) 0#32 = 1#1 := by revert t; decide +kernel
theorem cond8 (t : Fin k0_t1_loop.trips) : Scalar.cmpi .ne (Scalar.extui (Scalar.cmpi .sle (od t) 30#32) : BitVec 32) 0#32 = 1#1 ↔ t.val < 15 := by revert t; decide +kernel
theorem trips_lt (t : Fin k0_t1_loop.trips) : t.val < 16 := by revert t; decide +kernel
theorem sl_even (i : ℕ) : sl (2 * i) = false := by unfold sl; simp
theorem sl_odd (i : ℕ) : sl (2 * i + 1) = true := by rw [sl_succ, sl_even]; rfl

set_option maxHeartbeats 1000000 in
theorem part5 (c : Dev nD) (v14 v25 : BitVec 32) (t : Fin k0_t1_loop.trips) :
    iprop(recs m K ∗ OweB c (2 * t.val) ∗ Rel c (2 * t.val) ∗ SendX m c (2 * t.val) ∗ SendM m c (2 * t.val))
      ⊢ WP c (k0_part5 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c v14 v25 0#32 1#32 t)
        (fun r => iprop(⌜r = ⟨Scf.iv 0#32 1#32 t, ev t⟩⌝ ∗ Owe c (OF c (2 * t.val + 1) + tl (nxt c) (.ar (!sl (2 * t.val))) (2 * t.val)) ∗ RelD c (2 * t.val)
          ∗ SentX c (2 * t.val) ∗ SentM c (2 * t.val))) := by
  have ht := trips_lt t
  rw [k0_part5_eq_skeleton]
  unfold k0_part5_skel
  by_cases h1 : 1 ≤ t.val
  · obtain ⟨h, hh⟩ : ∃ h, 2 * t.val = h + 1 := ⟨2 * t.val - 1, by omega⟩
    have hs : true = sl h := by have := sl_even t.val; rw [hh, sl_succ] at this; revert this; cases sl h <;> simp
    simp only [dif_pos ((cond1 t).mpr h1), dif_pos ((cond2 t).mpr h1), semSignalWord, semWaitWord, Prog.lift, Prog.bind_op, Prog.bind_ret, Prog.pure_eq_ret]
    have hsl : false = sl (h + 1) := by rw [sl_succ, ← hs]; rfl
    rw [hh]
    iintro ⟨#Hr, Ho, Hrel, Hx, Hm⟩
    iapply (hop_rel m K c ⟨k0_dev5 c, k0_dev5_lt c t ((cond1 t).mpr h1)⟩ ⟨k0_dev6 c, k0_dev6_lt c t ((cond2 t).mpr h1)⟩ (Fin.ext (dev5_val c)) (Fin.ext (dev6_val c)) h (by omega) true true true true hs rfl rfl) $$ [Ho Hrel]
    · isplitr; · iexact Hr
      isplitl [Ho]; · iexact Ho
      iexact Hrel
    iintro ⟨Ho, Hrel⟩
    iapply (hop_x m K c _ (dev7_eq c) (h + 1) (by omega) false true hsl (by rw [← hsl]; rfl) rfl) $$ [Ho Hx]
    · isplitr; · iexact Hr
      isplitl [Ho]; · iexact Ho
      iexact Hx
    iintro ⟨Ho, Hx, Hcre⟩
    iapply (hop_m m K c _ (dev8_eq c) (h + 1) (by omega) false true hsl (by rw [← hsl]; rfl)) $$ [Ho Hm Hcre]
    · isplitr; · iexact Hr
      isplitl [Ho]; · iexact Ho
      isplitl [Hm]; · iexact Hm
      iexact Hcre
    iintro ⟨Ho, Hm⟩
    iapply (ret_WP c)
    isplitr; · ipureintro; rfl
    isplitl [Ho]; · iexact Ho
    isplitl [Hrel]; · iexact Hrel
    isplitl [Hx]; · iexact Hx
    iexact Hm
  · have h0 : t.val = 0 := by omega
    simp only [dif_neg (fun e => h1 ((cond1 t).mp e)), dif_neg (fun e => h1 ((cond2 t).mp e)), semSignalWord, semWaitWord, Prog.lift, Prog.bind_op, Prog.bind_ret, Prog.pure_eq_ret]
    rw [show 2 * t.val = 0 by omega]
    simp only [OweB, Rel]
    iintro ⟨#Hr, Ho, Hrel, Hx, Hm⟩
    iapply (hop_x m K c _ (dev7_eq c) 0 (by omega) false true rfl rfl rfl) $$ [Ho Hx]
    · isplitr; · iexact Hr
      isplitl [Ho]; · iexact Ho
      iexact Hx
    iintro ⟨Ho, Hx, Hcre⟩
    iapply (hop_m m K c _ (dev8_eq c) 0 (by omega) false true rfl rfl) $$ [Ho Hm Hcre]
    · isplitr; · iexact Hr
      isplitl [Ho]; · iexact Ho
      isplitl [Hm]; · iexact Hm
      iexact Hcre
    iintro ⟨Ho, Hm⟩
    iapply (ret_WP c)
    isplitr; · ipureintro; rfl
    isplitl [Ho]; · iexact Ho
    isplitl [Hrel]; · iexact Hrel
    isplitl [Hx]; · iexact Hx
    iexact Hm

set_option maxHeartbeats 1000000 in
theorem part6 (c : Dev nD) (v25 : BitVec 32) (t : Fin k0_t1_loop.trips) :
    iprop(recs m K ∗ Owe c (OF c (2 * t.val + 1) + tl (nxt c) (.ar (!sl (2 * t.val))) (2 * t.val)) ∗ Acc m c (2 * t.val) ∗ SendA c (2 * t.val) ∗ RecvX c (2 * t.val))
      ⊢ WP c (k0_part6 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c v25 (ev t))
        (fun _ => iprop(Owe c (OF c (2 * t.val + 1)) ∗ pos c (.ar (sl (2 * t.val))) ((2 * t.val + 1) / 2) ∗ (∃ V, ctP c V) ∗ SentA c (2 * t.val) ∗ GotX m c (2 * t.val))) := by
  have ht := trips_lt t
  have hs := (sl_even t.val).symm
  rw [k0_part6_eq_skeleton]
  unfold k0_part6_skel
  simp only [semSignalWord, semWaitWord, Prog.lift, Prog.bind_op, Prog.bind_ret, Prog.pure_eq_ret]
  by_cases h1 : 1 ≤ t.val
  · obtain ⟨h, hh⟩ : ∃ h, 2 * t.val = h + 1 := ⟨2 * t.val - 1, by omega⟩
    simp only [dif_pos ((cond3 t).mpr h1), Prog.bind_op, Prog.bind_ret]
    rw [hh] at hs ⊢
    iintro ⟨#Hr, Ho, Ha, Hs, Hx⟩
    iapply (hop_acc_f m K c h (by omega) hs) $$ [Ho Ha]
    · isplitr; · iexact Hr
      isplitl [Ho]; · iexact Ho
      iexact Ha
    unfold AccD
    iintro ⟨Ho, Hp, Ha, Hct⟩
    iapply (hop_a m K c _ (dev9_eq c) (h + 1) (by omega) false true hs (by rw [← hs]; rfl) rfl) $$ [Ho Hs Ha]
    · isplitr; · iexact Hr
      isplitl [Ho]; · iexact Ho
      isplitl [Hs]; · iexact Hs
      iexact Ha
    iintro ⟨Ho, Hs⟩
    iapply (hop_rx m K c (h + 1) (by omega) true true (by rw [← hs]; rfl)) $$ [Ho Hx]
    · isplitr; · iexact Hr
      isplitl [Ho]; · iexact Ho
      iexact Hx
    iintro ⟨Ho, Hx⟩
    iapply (ret_WP c)
    isplitl [Ho]; · iexact Ho
    isplitl [Hp]; · iexact Hp
    isplitl [Hct]; · iexact Hct
    isplitl [Hs]; · iexact Hs
    iexact Hx
  · simp only [dif_neg (fun e => h1 ((cond3 t).mp e)), Prog.bind_op, Prog.bind_ret]
    rw [show 2 * t.val = 0 by omega] at hs ⊢
    simp only [Acc]
    unfold AccD
    iintro ⟨#Hr, Ho, ⟨Hp, Ha, Hct⟩, Hs, Hx⟩
    iapply (hop_a m K c _ (dev9_eq c) 0 (by omega) false true rfl rfl rfl) $$ [Ho Hs Ha]
    · isplitr; · iexact Hr
      isplitl [Ho]; · iexact Ho
      isplitl [Hs]; · iexact Hs
      iexact Ha
    iintro ⟨Ho, Hs⟩
    iapply (hop_rx m K c 0 (by omega) true true rfl) $$ [Ho Hx]
    · isplitr; · iexact Hr
      isplitl [Ho]; · iexact Ho
      iexact Hx
    iintro ⟨Ho, Hx⟩
    iapply (ret_WP c)
    isplitl [Ho]; · iexact Ho
    isplitl [Hp]; · iexact Hp
    isplitl [Hct]; · iexact Hct
    isplitl [Hs]; · iexact Hs
    iexact Hx

end Cert.KernelIdeal.RingProof

end
-- ==== Proof.Ideal.Odd.lean ====
/-
The share for the next hop and the odd hop of a trip.
-/
module

public import proofs.«01_k».proof.Proof.Ideal.Even

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

set_option maxHeartbeats 2000000 in
theorem part7 (c : Dev nD) (v14 v25 : BitVec 32) (t : Fin k0_t1_loop.trips) :
    iprop(recs m K ∗ Owe c (OF c (2 * t.val + 1)) ∗ RelD c (2 * t.val) ∗ SentX c (2 * t.val) ∗ SentM c (2 * t.val) ∗ pos c (.ar (sl (2 * t.val))) ((2 * t.val + 1) / 2)
        ∗ (∃ V, ctP c V) ∗ SentA c (2 * t.val) ∗ GotX m c (2 * t.val) ∗ RecvM c (2 * t.val) ∗ Rest c (2 * t.val) ∗ weights m c)
      ⊢ WP c (k0_part7 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c (wd c) v14 v25 t (Scf.iv 0#32 1#32 t) (ev t))
        (fun r => iprop(⌜r.1 = od t⌝ ∗ Owe c (OF c (2 * t.val + 1 + 1) + (tl (nxt c) (.ar (!sl (2 * t.val + 1))) (2 * t.val + 1) + tl (nxt c) (.mr (!sl (2 * t.val + 1))) (2 * t.val + 1)))
          ∗ RelD c (2 * t.val + 1) ∗ SentX c (2 * t.val + 1) ∗ CreM c (2 * t.val + 1) ∗ SendM m c (2 * t.val + 1) ∗ Acc m c (2 * t.val + 1) ∗ SendA c (2 * t.val + 1)
          ∗ RecvX c (2 * t.val + 1) ∗ RecvM c (2 * t.val + 1) ∗ Rest c (2 * t.val + 1) ∗ weights m c)) := by
  have ht := trips_lt t
  have hs := sl_even t.val
  have hs1 := sl_odd t.val
  rw [k0_part7_eq_skeleton]
  unfold k0_part7_skel
  simp only [dif_pos (cond4 t), dif_pos (cond5 t), dif_pos (cond6 t), k0_part1_eq_skeleton, k0_part2_eq_skeleton, k0_part1_skel, k0_part2_skel,
    semSignalWord, semWaitWord, Prog.lift, Prog.bind_op, Prog.bind_ret, Prog.pure_eq_ret]
  generalize he : 2 * t.val = h at *
  have hh : h < 31 := by omega
  iintro ⟨#Hr, Ho, Hrel, Hsx, Hsm, Hpa, ⟨%V, Hct⟩, Hsa, Hgx, Hrm, Hrest, Hw⟩
  iapply (hop_rm m K c h (by omega) true true (by rw [hs]; rfl)) $$ [Ho Hrm]
  · isplitr; · iexact Hr
    isplitl [Ho]; · iexact Ho
    iexact Hrm
  iintro ⟨Ho, Hgm⟩
  unfold GotX GotM weights
  icases Hgx with ⟨Hgx, Hx, Hgr⟩
  icases Hgm with ⟨Hgm, Hm⟩
  icases Hw with ⟨Hw0, Hw1, Hw2, Hw3⟩
  rw [hs]
  simp only [ownX, ownM, ownW, Bool.not_false]
  iapply (load_owns c (M := pkM) (hr := fun _ => rfl)) $$ Hx
  iintro Hx
  iapply (load_owns c (M := mtM) (hr := fun _ => rfl)) $$ Hm
  iintro Hm
  iapply (load_owns c (M := wbM) (hr := fun _ => rfl)) $$ Hw0
  iintro Hw0
  iapply (load_owns c (M := wbM) (hr := fun _ => rfl)) $$ Hw1
  iintro Hw1
  iapply (load_owns c (M := wbM) (hr := fun _ => rfl)) $$ Hw2
  iintro Hw2
  iapply (load_owns c (M := wbM) (hr := fun _ => rfl)) $$ Hw3
  iintro Hw3
  iapply (load_ct c) $$ Hct
  iintro Hct
  iapply (store_ct c) $$ [Hct]
  · iexists V; iexact Hct
  iintro Hct
  ihave Hpre := (next m c h (by omega)) $$ [Ho Hrel Hsx Hsm Hpa Hsa Hgx Hx Hgr Hgm Hm Hct Hrest Hw0 Hw1 Hw2 Hw3]
  · unfold Post GotX GotM Got weights
    rw [hs]
    simp only [ownX, ownM, ownW, Bool.not_false]
    isplitl [Ho]; · iexact Ho
    isplitl [Hrel]; · iexact Hrel
    isplitl [Hsx]; · iexact Hsx
    isplitl [Hsm]; · iexact Hsm
    isplitl [Hpa]; · iexact Hpa
    isplitl [Hsa]; · iexact Hsa
    isplitl [Hgx Hx Hgr]
    · isplitl [Hgx]; · iexact Hgx
      isplitl [Hx]; · iexact Hx
      iexact Hgr
    isplitl [Hgm Hm]
    · isplitl [Hgm]; · iexact Hgm
      iexact Hm
    isplitl [Hct]
    · iexists (Ctr m c (h + 1))
      isplitr; · ipureintro; exact fun _ => rfl
      iexact Hct
    isplitl [Hrest]; · iexact Hrest
    isplitl [Hw0]; · iexact Hw0
    isplitl [Hw1]; · iexact Hw1
    isplitl [Hw2]; · iexact Hw2
    iexact Hw3
  unfold Pre
  icases Hpre with ⟨Ho, Hrel, Hx, Hm, Ha, Hsa, Hrx, Hrm, Hrest, Hw⟩
  iapply (hop_rel m K c ⟨k0_dev10 c, k0_dev10_lt c t (cond5 t)⟩ ⟨k0_dev11 c, k0_dev11_lt c t (cond6 t)⟩ (Fin.ext (dev10_val c)) (Fin.ext (dev11_val c)) h (by omega) false false false false hs.symm rfl rfl) $$ [Ho Hrel]
  · isplitr; · iexact Hr
    isplitl [Ho]; · iexact Ho
    iexact Hrel
  iintro ⟨Ho, Hrel⟩
  iapply (hop_x m K c _ (dev12_eq c) (h + 1) (by omega) true false hs1.symm (by rw [hs1]; rfl) rfl) $$ [Ho Hx]
  · isplitr; · iexact Hr
    isplitl [Ho]; · iexact Ho
    iexact Hx
  iintro ⟨Ho, Hx, Hcre⟩
  iapply (ret_WP c)
  isplitr; · ipureintro; rfl
  isplitl [Ho]; · iexact Ho
  isplitl [Hrel]; · iexact Hrel
  isplitl [Hx]; · iexact Hx
  isplitl [Hcre]; · iexact Hcre
  isplitl [Hm]; · iexact Hm
  isplitl [Ha]; · iexact Ha
  isplitl [Hsa]; · iexact Hsa
  isplitl [Hrx]; · iexact Hrx
  isplitl [Hrm]; · iexact Hrm
  isplitl [Hrest]; · iexact Hrest
  unfold weights
  simp only [ownW]
  iexact Hw

set_option maxHeartbeats 2000000 in
theorem part8 (c : Dev nD) (v25 v311 : BitVec 32) (t : Fin k0_t1_loop.trips) :
    iprop(recs m K ∗ Owe c (OF c (2 * t.val + 1 + 1) + (tl (nxt c) (.ar (!sl (2 * t.val + 1))) (2 * t.val + 1) + tl (nxt c) (.mr (!sl (2 * t.val + 1))) (2 * t.val + 1)))
        ∗ CreM c (2 * t.val + 1) ∗ SendM m c (2 * t.val + 1) ∗ Acc m c (2 * t.val + 1) ∗ SendA c (2 * t.val + 1))
      ⊢ WP c (k0_part8 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c v25 (od t) v311)
        (fun _ => iprop(Owe c (OF c (2 * t.val + 1 + 1)) ∗ SentM c (2 * t.val + 1) ∗ pos c (.ar (sl (2 * t.val + 1))) ((2 * t.val + 1 + 1) / 2) ∗ (∃ V, ctP c V) ∗ SentA c (2 * t.val + 1))) := by
  have ht := trips_lt t
  have hs1 := sl_odd t.val
  rw [k0_part8_eq_skeleton]
  unfold k0_part8_skel
  simp only [dif_pos (cond7 t), semSignalWord, semWaitWord, Prog.lift, Prog.bind_op, Prog.bind_ret, Prog.pure_eq_ret]
  generalize he : 2 * t.val = h at *
  iintro ⟨#Hr, Ho, Hcre, Hm, Ha, Hsa⟩
  iapply (hop_m m K c _ (dev13_eq c) (h + 1) (by omega) true false hs1.symm (by rw [hs1]; rfl)) $$ [Ho Hm Hcre]
  · isplitr; · iexact Hr
    isplitl [Ho]; · iexact Ho
    isplitl [Hm]; · iexact Hm
    iexact Hcre
  iintro ⟨Ho, Hm⟩
  iapply (hop_acc_t m K c h (by omega) hs1.symm) $$ [Ho Ha]
  · isplitr; · iexact Hr
    isplitl [Ho]; · iexact Ho
    iexact Ha
  unfold AccD
  iintro ⟨Ho, Hp, Ha, Hct⟩
  iapply (hop_a m K c _ (dev14_eq c) (h + 1) (by omega) true false hs1.symm (by rw [hs1]; rfl) rfl) $$ [Ho Hsa Ha]
  · isplitr; · iexact Hr
    isplitl [Ho]; · iexact Ho
    isplitl [Hsa]; · iexact Hsa
    iexact Ha
  iintro ⟨Ho, Hsa⟩
  iapply (ret_WP c)
  isplitl [Ho]; · iexact Ho
  isplitl [Hm]; · iexact Hm
  isplitl [Hp]; · iexact Hp
  isplitl [Hct]; · iexact Hct
  iexact Hsa

end Cert.KernelIdeal.RingProof

end
-- ==== Proof.Ideal.Trip.lean ====
/-
One trip of the kernel's loop: an even and an odd hop.
-/
module

public import proofs.«01_k».proof.Proof.Ideal.Odd

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

/-- Before trip `k`. -/
def Inv (c : Dev nD) : ℕ → sProp 𝕄
  | 0 => Pre m c 0
  | k + 1 => Post m c (2 * k + 1)

theorem inv_pre (c : Dev nD) (k : ℕ) (hk : k < 16) : Inv m c k ⊢ Pre m c (2 * k) := by
  cases k with
  | zero => exact Entails.refl _
  | succ k => exact next m c (2 * k + 1) (by omega)

set_option maxHeartbeats 2000000 in
theorem trip (c : Dev nD) (v14 v25 : BitVec 32) (a b d e f g) (t : Fin k0_t1_loop.trips) (u : Unit) :
    iprop(recs m K ∗ Inv m c t.val)
      ⊢ WP c (k0_t1_body (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c (wd c) v14 v25 a b d e f g t u) (fun _ => iprop(recs m K ∗ Inv m c (t.val + 1))) := by
  have ht := trips_lt t
  have hs1 := sl_odd t.val
  unfold k0_t1_body
  rw [show Inv m c (t.val + 1) = Post m c (2 * t.val + 1) from rfl]
  iintro ⟨#Hr, Hi⟩
  ihave Hpre := (inv_pre m c t.val ht) $$ Hi
  unfold Pre
  icases Hpre with ⟨Ho, Hrel, Hx, Hm, Ha, Hsa, Hrx, Hrm, Hrest, Hw⟩
  iapply (seq_WP c _ (part5 m K c v14 v25 t)) $$ [Ho Hrel Hx Hm]
  · isplitr; · iexact Hr
    isplitl [Ho]; · iexact Ho
    isplitl [Hrel]; · iexact Hrel
    isplitl [Hx]; · iexact Hx
    iexact Hm
  iintro %r ⟨%hr, Ho, Hrel, Hx, Hm⟩
  subst hr
  iapply (seq_WP c _ (part6 m K c v25 t)) $$ [Ho Ha Hsa Hrx]
  · isplitr; · iexact Hr
    isplitl [Ho]; · iexact Ho
    isplitl [Ha]; · iexact Ha
    isplitl [Hsa]; · iexact Hsa
    iexact Hrx
  iintro %_ ⟨Ho, Hpa, Hct, Hsa, Hgx⟩
  iapply (seq_WP c _ (part7 m K c v14 v25 t)) $$ [Ho Hrel Hx Hm Hpa Hct Hsa Hgx Hrm Hrest Hw]
  · isplitr; · iexact Hr
    isplitl [Ho]; · iexact Ho
    isplitl [Hrel]; · iexact Hrel
    isplitl [Hx]; · iexact Hx
    isplitl [Hm]; · iexact Hm
    isplitl [Hpa]; · iexact Hpa
    isplitl [Hct]; · iexact Hct
    isplitl [Hsa]; · iexact Hsa
    isplitl [Hgx]; · iexact Hgx
    isplitl [Hrm]; · iexact Hrm
    isplitl [Hrest]; · iexact Hrest
    iexact Hw
  iintro %r ⟨%hr, Ho, Hrel, Hx, Hcre, Hm, Ha, Hsa, Hrx, Hrm, Hrest, Hw⟩
  obtain ⟨r1, r2⟩ := r
  subst hr
  iapply (seq_WP c _ (part8 m K c v25 r2 t)) $$ [Ho Hcre Hm Ha Hsa]
  · isplitr; · iexact Hr
    isplitl [Ho]; · iexact Ho
    isplitl [Hcre]; · iexact Hcre
    isplitl [Hm]; · iexact Hm
    isplitl [Ha]; · iexact Ha
    iexact Hsa
  iintro %_ ⟨Ho, Hm, Hpa, ⟨%V, Hct⟩, Hsa⟩
  simp only [Prog.lift, Prog.bind_op, Prog.bind_ret, Prog.pure_eq_ret]
  iapply (hop_rx m K c (2 * t.val + 1) (by omega) false false (by rw [hs1]; rfl)) $$ [Ho Hrx]
  · isplitr; · iexact Hr
    isplitl [Ho]; · iexact Ho
    iexact Hrx
  iintro ⟨Ho, Hgx⟩
  iapply (hop_rm m K c (2 * t.val + 1) (by omega) false false (by rw [hs1]; rfl)) $$ [Ho Hrm]
  · isplitr; · iexact Hr
    isplitl [Ho]; · iexact Ho
    iexact Hrm
  iintro ⟨Ho, Hgm⟩
  unfold Post
  by_cases h8 : t.val < 15
  · simp only [dif_pos ((cond8 t).mpr h8), k0_part3_eq_skeleton, k0_part4_eq_skeleton, k0_part3_skel, k0_part4_skel, Prog.lift, Prog.bind_op, Prog.bind_ret, Prog.pure_eq_ret]
    unfold GotX GotM weights
    icases Hgx with ⟨Hgx, Hxx, Hgr⟩
    icases Hgm with ⟨Hgm, Hmm⟩
    icases Hw with ⟨Hw0, Hw1, Hw2, Hw3⟩
    rw [hs1]
    simp only [ownX, ownM, ownW, Bool.not_true]
    iapply (load_owns c (M := pkM) (hr := fun _ => rfl)) $$ Hxx
    iintro Hxx
    iapply (load_owns c (M := mtM) (hr := fun _ => rfl)) $$ Hmm
    iintro Hmm
    iapply (load_owns c (M := wbM) (hr := fun _ => rfl)) $$ Hw0
    iintro Hw0
    iapply (load_owns c (M := wbM) (hr := fun _ => rfl)) $$ Hw1
    iintro Hw1
    iapply (load_owns c (M := wbM) (hr := fun _ => rfl)) $$ Hw2
    iintro Hw2
    iapply (load_owns c (M := wbM) (hr := fun _ => rfl)) $$ Hw3
    iintro Hw3
    iapply (load_ct c) $$ Hct
    iintro Hct
    iapply (store_ct c) $$ [Hct]
    · iexists V; iexact Hct
    iintro Hct
    iapply (ret_WP c)
    isplitr; · iexact Hr
    isplitl [Ho]; · iexact Ho
    isplitl [Hrel]; · iexact Hrel
    isplitl [Hx]; · iexact Hx
    isplitl [Hm]; · iexact Hm
    isplitl [Hpa]; · iexact Hpa
    isplitl [Hsa]; · iexact Hsa
    isplitl [Hgx Hxx Hgr]
    · isplitl [Hgx]; · iexact Hgx
      isplitl [Hxx]; · iexact Hxx
      iexact Hgr
    isplitl [Hgm Hmm]
    · isplitl [Hgm]; · iexact Hgm
      iexact Hmm
    isplitl [Hct]
    · unfold Got
      iexists (Ctr m c (2 * t.val + 1 + 1))
      isplitr; · ipureintro; exact fun _ => rfl
      iexact Hct
    isplitl [Hrest]; · iexact Hrest
    isplitl [Hw0]; · iexact Hw0
    isplitl [Hw1]; · iexact Hw1
    isplitl [Hw2]; · iexact Hw2
    iexact Hw3
  · simp only [dif_neg (fun e => h8 ((cond8 t).mp e)), Prog.bind_ret, Prog.pure_eq_ret]
    iapply (ret_WP c)
    isplitr; · iexact Hr
    isplitl [Ho]; · iexact Ho
    isplitl [Hrel]; · iexact Hrel
    isplitl [Hx]; · iexact Hx
    isplitl [Hm]; · iexact Hm
    isplitl [Hpa]; · iexact Hpa
    isplitl [Hsa]; · iexact Hsa
    isplitl [Hgx]; · iexact Hgx
    isplitl [Hgm]; · iexact Hgm
    isplitl [Hct]
    · unfold Got
      iexists V
      isplitr; · ipureintro; exact fun h => absurd h (by omega)
      iexact Hct
    isplitl [Hrest]; · iexact Hrest
    iexact Hw

end Cert.KernelIdeal.RingProof

end
-- ==== Proof.Ideal.Regions.lean ====
/-
The kernel's scratch buffers cut into the pieces it uses, and joined again.
-/
module

public import proofs.«01_k».proof.Proof.Ideal.Trip
public import Idealize.ShloMosaic.Lib.Pipeline.ValueKit.Geometry

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

/-! ## Sets of elements -/

/-- The elements of the scratch buffers' pieces. -/
def xgSet : Bool → Finset (cc0_scratch0 : Ref sig .tc).ty.shape.Idx
  | false => (xgM false).view.set
  | true => (xgM true).view.set
def acSet : Bool → Finset (cc0_scratch0 : Ref sig .tc).ty.shape.Idx
  | false => (acM false).view.set
  | true => (acM true).view.set
def meSet : Bool → Finset (cc0_scratch1 : Ref sig .tc).ty.shape.Idx
  | false => (meM false).view.set
  | true => (meM true).view.set
theorem slotX_eq (c : Dev nD) (s : Bool) : slotX (F := F) c s = slot ((c : Thread nD τ).loc cc0_scratch0) (xgSet s) := by cases s <;> rfl
theorem slotA_eq (c : Dev nD) (s : Bool) : slotA (F := F) c s = slot ((c : Thread nD τ).loc cc0_scratch0) (acSet s) := by cases s <;> rfl
theorem slotM_eq (c : Dev nD) (s : Bool) : slotM (F := F) c s = slot ((c : Thread nD τ).loc cc0_scratch1) (meSet s) := by cases s <;> rfl

theorem mem_xg (s : Bool) (p : (cc0_scratch0 : Ref sig .tc).ty.shape.Idx) :
    p ∈ xgSet s ↔ (p (0 : Fin 3)).val = s.toNat ∧ (p (2 : Fin 3)).val < 512 := by
  have h1 : (p (1 : Fin 3)).val < 1024 := (p (1 : Fin 3)).isLt
  cases s
  · refine Idealize.ShloMosaic.ValueKit.mem_set_slice_whole_iff cc0_scratch0 (Rect.unit (s := S2x1024x1536) ![0, 0, 0] S1x1024x512.size inb_S2x1024x1536_S1x1024x512_0_0_0) p (Rect.mem_set_unit.trans ((Idealize.ShloMosaic.ValueKit.forall_fin_iff_conj (n := 3)).trans ?_))
    show ((0 ≤ (p (0 : Fin 3)).val ∧ (p (0 : Fin 3)).val < 0 + 1) ∧ (0 ≤ (p (1 : Fin 3)).val ∧ (p (1 : Fin 3)).val < 0 + 1024) ∧ (0 ≤ (p (2 : Fin 3)).val ∧ (p (2 : Fin 3)).val < 0 + 512)) ↔ (p (0 : Fin 3)).val = 0 ∧ _
    omega
  · refine Idealize.ShloMosaic.ValueKit.mem_set_slice_whole_iff cc0_scratch0 (Rect.unit (s := S2x1024x1536) ![1, 0, 0] S1x1024x512.size inb_S2x1024x1536_S1x1024x512_1_0_0) p (Rect.mem_set_unit.trans ((Idealize.ShloMosaic.ValueKit.forall_fin_iff_conj (n := 3)).trans ?_))
    show ((1 ≤ (p (0 : Fin 3)).val ∧ (p (0 : Fin 3)).val < 1 + 1) ∧ (0 ≤ (p (1 : Fin 3)).val ∧ (p (1 : Fin 3)).val < 0 + 1024) ∧ (0 ≤ (p (2 : Fin 3)).val ∧ (p (2 : Fin 3)).val < 0 + 512)) ↔ (p (0 : Fin 3)).val = 1 ∧ _
    omega

theorem mem_ac (s : Bool) (p : (cc0_scratch0 : Ref sig .tc).ty.shape.Idx) :
    p ∈ acSet s ↔ (p (0 : Fin 3)).val = s.toNat ∧ 512 ≤ (p (2 : Fin 3)).val := by
  have h1 : (p (1 : Fin 3)).val < 1024 := (p (1 : Fin 3)).isLt
  have h2 : (p (2 : Fin 3)).val < 1536 := (p (2 : Fin 3)).isLt
  cases s
  · refine Idealize.ShloMosaic.ValueKit.mem_set_slice_whole_iff cc0_scratch0 (Rect.unit (s := S2x1024x1536) ![0, 0, 512] S1x1024x1024.size inb_S2x1024x1536_S1x1024x1024_0_0_512) p (Rect.mem_set_unit.trans ((Idealize.ShloMosaic.ValueKit.forall_fin_iff_conj (n := 3)).trans ?_))
    show ((0 ≤ (p (0 : Fin 3)).val ∧ (p (0 : Fin 3)).val < 0 + 1) ∧ (0 ≤ (p (1 : Fin 3)).val ∧ (p (1 : Fin 3)).val < 0 + 1024) ∧ (512 ≤ (p (2 : Fin 3)).val ∧ (p (2 : Fin 3)).val < 512 + 1024)) ↔ (p (0 : Fin 3)).val = 0 ∧ _
    omega
  · refine Idealize.ShloMosaic.ValueKit.mem_set_slice_whole_iff cc0_scratch0 (Rect.unit (s := S2x1024x1536) ![1, 0, 512] S1x1024x1024.size inb_S2x1024x1536_S1x1024x1024_1_0_512) p (Rect.mem_set_unit.trans ((Idealize.ShloMosaic.ValueKit.forall_fin_iff_conj (n := 3)).trans ?_))
    show ((1 ≤ (p (0 : Fin 3)).val ∧ (p (0 : Fin 3)).val < 1 + 1) ∧ (0 ≤ (p (1 : Fin 3)).val ∧ (p (1 : Fin 3)).val < 0 + 1024) ∧ (512 ≤ (p (2 : Fin 3)).val ∧ (p (2 : Fin 3)).val < 512 + 1024)) ↔ (p (0 : Fin 3)).val = 1 ∧ _
    omega

theorem mem_me (s : Bool) (p : (cc0_scratch1 : Ref sig .tc).ty.shape.Idx) : p ∈ meSet s ↔ (p (0 : Fin 3)).val = s.toNat := by
  have h1 : (p (1 : Fin 3)).val < 8 := (p (1 : Fin 3)).isLt
  have h2 : (p (2 : Fin 3)).val < 1024 := (p (2 : Fin 3)).isLt
  cases s
  · refine Idealize.ShloMosaic.ValueKit.mem_set_slice_whole_iff cc0_scratch1 (Rect.unit (s := S2x8x1024) ![0, 0, 0] S1x8x1024.size inb_S2x8x1024_S1x8x1024_0_0_0) p (Rect.mem_set_unit.trans ((Idealize.ShloMosaic.ValueKit.forall_fin_iff_conj (n := 3)).trans ?_))
    show ((0 ≤ (p (0 : Fin 3)).val ∧ (p (0 : Fin 3)).val < 0 + 1) ∧ (0 ≤ (p (1 : Fin 3)).val ∧ (p (1 : Fin 3)).val < 0 + 8) ∧ (0 ≤ (p (2 : Fin 3)).val ∧ (p (2 : Fin 3)).val < 0 + 1024)) ↔ (p (0 : Fin 3)).val = 0
    omega
  · refine Idealize.ShloMosaic.ValueKit.mem_set_slice_whole_iff cc0_scratch1 (Rect.unit (s := S2x8x1024) ![1, 0, 0] S1x8x1024.size inb_S2x8x1024_S1x8x1024_1_0_0) p (Rect.mem_set_unit.trans ((Idealize.ShloMosaic.ValueKit.forall_fin_iff_conj (n := 3)).trans ?_))
    show ((1 ≤ (p (0 : Fin 3)).val ∧ (p (0 : Fin 3)).val < 1 + 1) ∧ (0 ≤ (p (1 : Fin 3)).val ∧ (p (1 : Fin 3)).val < 0 + 8) ∧ (0 ≤ (p (2 : Fin 3)).val ∧ (p (2 : Fin 3)).val < 0 + 1024)) ↔ (p (0 : Fin 3)).val = 1
    omega

/-- The `j`-th weight's offsets. -/
theorem mem_wb_of (j : ℕ) (hj : ∀ a : Fin 3, (![j, 0, 0] : Fin 3 → ℕ) a + S1x512x1024.size a ≤ S4x512x1024.size a) (p : (cc0_scratch2 : Ref sig .tc).ty.shape.Idx) :
    p ∈ (wbM.slice (Rect.unit (s := S4x512x1024) ![j, 0, 0] S1x512x1024.size hj) (fun _ => rfl)).view.set ↔ (p (0 : Fin 3)).val = j := by
  have h1 : (p (1 : Fin 3)).val < 512 := (p (1 : Fin 3)).isLt
  have h2 : (p (2 : Fin 3)).val < 1024 := (p (2 : Fin 3)).isLt
  refine Idealize.ShloMosaic.ValueKit.mem_set_slice_whole_iff cc0_scratch2 (Rect.unit (s := S4x512x1024) ![j, 0, 0] S1x512x1024.size hj) p (Rect.mem_set_unit.trans ((Idealize.ShloMosaic.ValueKit.forall_fin_iff_conj (n := 3)).trans ?_))
  show ((j ≤ (p (0 : Fin 3)).val ∧ (p (0 : Fin 3)).val < j + 1) ∧ (0 ≤ (p (1 : Fin 3)).val ∧ (p (1 : Fin 3)).val < 0 + 512) ∧ (0 ≤ (p (2 : Fin 3)).val ∧ (p (2 : Fin 3)).val < 0 + 1024)) ↔ (p (0 : Fin 3)).val = j
  omega

def wbSet : Fin 4 → Finset (cc0_scratch2 : Ref sig .tc).ty.shape.Idx
  | 0 => (wbS 0).view.set
  | 1 => (wbS 1).view.set
  | 2 => (wbS 2).view.set
  | 3 => (wbS 3).view.set
theorem mem_wb (j : Fin 4) (p : (cc0_scratch2 : Ref sig .tc).ty.shape.Idx) : p ∈ wbSet j ↔ (p (0 : Fin 3)).val = j.val := by
  match j with
  | 0 => exact mem_wb_of 0 inb_S4x512x1024_S1x512x1024_0_0_0 p
  | 1 => exact mem_wb_of 1 inb_S4x512x1024_S1x512x1024_1_0_0 p
  | 2 => exact mem_wb_of 2 inb_S4x512x1024_S1x512x1024_2_0_0 p
  | 3 => exact mem_wb_of 3 inb_S4x512x1024_S1x512x1024_3_0_0 p

/-! ## Cutting a buffer and joining it -/

theorem slot_cut {ℓ : Loc nD τ sig} {I J S : Finset (Idx ℓ)} (hS : I ∪ J = S) (h : Disjoint I J) :
    (slot ℓ S : sProp 𝕄) ⊢ iprop(slot ℓ I ∗ slot ℓ J) := by
  subst hS
  unfold slot
  iintro ⟨%f, H⟩
  ihave H := (pointsTo_union h).1 $$ H
  icases H with ⟨H1, H2⟩
  isplitl [H1]
  · iexists f; iexact H1
  iexists f; iexact H2
theorem slot_join {ℓ : Loc nD τ sig} {I J S : Finset (Idx ℓ)} (hS : I ∪ J = S) (h : Disjoint I J) :
    iprop(slot ℓ I ∗ slot ℓ J) ⊢ (slot ℓ S : sProp 𝕄) := by
  subst hS
  unfold slot
  iintro ⟨⟨%f, H1⟩, ⟨%g, H2⟩⟩
  iexists (J.piecewise g f)
  iapply (pointsTo_join h)
  isplitl [H1]; · iexact H1
  iexact H2

theorem pk_row (s : Bool) : xgSet s ∪ acSet s = (Finset.univ.filter fun p : (cc0_scratch0 : Ref sig .tc).ty.shape.Idx => (p (0 : Fin 3)).val = s.toNat) := by
  ext p
  rw [Finset.mem_union, Finset.mem_filter, mem_xg, mem_ac]
  have := Finset.mem_univ p
  constructor
  · rintro (h | h) <;> exact ⟨this, h.1⟩
  · rintro ⟨-, h⟩
    by_cases h2 : (p (2 : Fin 3)).val < 512
    · exact Or.inl ⟨h, h2⟩
    · exact Or.inr ⟨h, by omega⟩
theorem pk_row_disj (s : Bool) : Disjoint (xgSet s) (acSet s) := by
  rw [Finset.disjoint_left]
  intro p h1 h2
  have h1' := (mem_xg s p).mp h1
  have h2' := (mem_ac s p).mp h2
  omega
theorem row_disj {r : Ref sig .tc} (f : r.ty.shape.Idx → ℕ) {a b : ℕ} (h : a ≠ b) :
    Disjoint (Finset.univ.filter fun p => f p = a) (Finset.univ.filter fun p => f p = b) := by
  rw [Finset.disjoint_left]
  intro p h1 h2
  exact h ((Finset.mem_filter.mp h1).2.symm.trans (Finset.mem_filter.mp h2).2)
theorem pk_rows : (Finset.univ.filter fun p : (cc0_scratch0 : Ref sig .tc).ty.shape.Idx => (p (0 : Fin 3)).val = false.toNat)
    ∪ (Finset.univ.filter fun p : (cc0_scratch0 : Ref sig .tc).ty.shape.Idx => (p (0 : Fin 3)).val = true.toNat) = Finset.univ := by
  ext p
  have h0 : (p (0 : Fin 3)).val < 2 := (p (0 : Fin 3)).isLt
  simp only [Finset.mem_union, Finset.mem_filter, Finset.mem_univ, true_and, Bool.toNat_false, Bool.toNat_true, iff_true]
  omega

theorem slot_whole (c : Dev nD) (b : Ref sig .tc) : (iprop(∃ f : Buf (Elt F) ((c : Thread nD τ).loc b), ((c : Thread nD τ).loc b) ↦{fullShare} f) : sProp 𝕄) = slot ((c : Thread nD τ).loc b) Finset.univ := rfl

theorem cut_pk (c : Dev nD) : (slot ((c : Thread nD τ).loc cc0_scratch0) Finset.univ : sProp 𝕄)
    ⊢ iprop(slotX c false ∗ slotX c true ∗ slotA c false ∗ slotA c true) := by
  rw [slotX_eq, slotX_eq, slotA_eq, slotA_eq]
  iintro H
  ihave H := (slot_cut pk_rows (row_disj (r := cc0_scratch0) (fun p => (p (0 : Fin 3)).val) (show false.toNat ≠ true.toNat by decide))) $$ H
  icases H with ⟨H0, H1⟩
  ihave H0 := (slot_cut (pk_row false) (pk_row_disj false)) $$ H0
  ihave H1 := (slot_cut (pk_row true) (pk_row_disj true)) $$ H1
  icases H0 with ⟨Hx0, Ha0⟩
  icases H1 with ⟨Hx1, Ha1⟩
  isplitl [Hx0]; · iexact Hx0
  isplitl [Hx1]; · iexact Hx1
  isplitl [Ha0]; · iexact Ha0
  iexact Ha1
theorem join_pk (c : Dev nD) : iprop(slotX c false ∗ slotX c true ∗ slotA c false ∗ slotA c true)
    ⊢ (slot ((c : Thread nD τ).loc cc0_scratch0) Finset.univ : sProp 𝕄) := by
  rw [slotX_eq, slotX_eq, slotA_eq, slotA_eq]
  iintro ⟨Hx0, Hx1, Ha0, Ha1⟩
  iapply (slot_join pk_rows (row_disj (r := cc0_scratch0) (fun p => (p (0 : Fin 3)).val) (show false.toNat ≠ true.toNat by decide)))
  isplitl [Hx0 Ha0]
  · iapply (slot_join (pk_row false) (pk_row_disj false))
    isplitl [Hx0]; · iexact Hx0
    iexact Ha0
  iapply (slot_join (pk_row true) (pk_row_disj true))
  isplitl [Hx1]; · iexact Hx1
  iexact Ha1

theorem mt_rows : meSet false ∪ meSet true = Finset.univ := by
  ext p
  have h0 : (p (0 : Fin 3)).val < 2 := (p (0 : Fin 3)).isLt
  rw [Finset.mem_union, mem_me, mem_me]
  simp only [Finset.mem_univ, Bool.toNat_false, Bool.toNat_true, iff_true]
  omega
theorem mt_disj : Disjoint (meSet false) (meSet true) := by
  rw [Finset.disjoint_left]
  intro p h1 h2
  have h1' := (mem_me false p).mp h1
  have h2' := (mem_me true p).mp h2
  simp only [Bool.toNat_false, Bool.toNat_true] at h1' h2'
  omega
theorem cut_mt (c : Dev nD) : (slot ((c : Thread nD τ).loc cc0_scratch1) Finset.univ : sProp 𝕄) ⊢ iprop(slotM c false ∗ slotM c true) := by
  rw [slotM_eq, slotM_eq]; exact slot_cut mt_rows mt_disj
theorem join_mt (c : Dev nD) : iprop(slotM c false ∗ slotM c true) ⊢ (slot ((c : Thread nD τ).loc cc0_scratch1) Finset.univ : sProp 𝕄) := by
  rw [slotM_eq, slotM_eq]; exact slot_join mt_rows mt_disj

theorem wb_disj : ∀ i ∈ (Finset.univ : Finset (Fin 4)), ∀ j ∈ (Finset.univ : Finset (Fin 4)), i ≠ j → Disjoint (wbSet i) (wbSet j) := by
  intro i _ j _ h
  rw [Finset.disjoint_left]
  intro p h1 h2
  exact h (Fin.ext (((mem_wb i p).mp h1).symm.trans ((mem_wb j p).mp h2)))
theorem wb_left : (wbSet 0 ∪ wbSet 1) ∪ (wbSet 2 ∪ wbSet 3) = Finset.univ := by
  ext p
  have h0 : (p (0 : Fin 3)).val < 4 := (p (0 : Fin 3)).isLt
  rw [Finset.mem_union, Finset.mem_union, Finset.mem_union, mem_wb, mem_wb, mem_wb, mem_wb]
  have := Finset.mem_univ p
  simp only [this, iff_true]
  show ((p (0 : Fin 3)).val = 0 ∨ (p (0 : Fin 3)).val = 1) ∨ ((p (0 : Fin 3)).val = 2 ∨ (p (0 : Fin 3)).val = 3)
  omega
theorem wb_disj2 : Disjoint (wbSet 0 ∪ wbSet 1) (wbSet 2 ∪ wbSet 3) := by
  have h := fun i j hij => wb_disj i (Finset.mem_univ i) j (Finset.mem_univ j) hij
  rw [Finset.disjoint_union_left, Finset.disjoint_union_right, Finset.disjoint_union_right]
  exact ⟨⟨h 0 2 (by decide), h 0 3 (by decide)⟩, ⟨h 1 2 (by decide), h 1 3 (by decide)⟩⟩

def slotW (c : Dev nD) (j : Fin 4) : sProp 𝕄 := slot ((c : Thread nD τ).loc cc0_scratch2) (wbSet j)
theorem cut_wb (c : Dev nD) : (slot ((c : Thread nD τ).loc cc0_scratch2) Finset.univ : sProp 𝕄) ⊢ iprop(slotW c 0 ∗ slotW c 1 ∗ slotW c 2 ∗ slotW c 3) := by
  unfold slotW
  iintro H
  ihave H := (slot_cut wb_left wb_disj2) $$ H
  icases H with ⟨H0, H1⟩
  ihave H0 := (slot_cut rfl (wb_disj 0 (Finset.mem_univ _) 1 (Finset.mem_univ _) (by decide))) $$ H0
  ihave H1 := (slot_cut rfl (wb_disj 2 (Finset.mem_univ _) 3 (Finset.mem_univ _) (by decide))) $$ H1
  icases H0 with ⟨Hx0, Ha0⟩
  icases H1 with ⟨Hx1, Ha1⟩
  isplitl [Hx0]; · iexact Hx0
  isplitl [Ha0]; · iexact Ha0
  isplitl [Hx1]; · iexact Hx1
  iexact Ha1
theorem join_wb (c : Dev nD) : iprop(slotW c 0 ∗ slotW c 1 ∗ slotW c 2 ∗ slotW c 3) ⊢ (slot ((c : Thread nD τ).loc cc0_scratch2) Finset.univ : sProp 𝕄) := by
  unfold slotW
  iintro ⟨H0, H1, H2, H3⟩
  iapply (slot_join wb_left wb_disj2)
  isplitl [H0 H1]
  · iapply (slot_join rfl (wb_disj 0 (Finset.mem_univ _) 1 (Finset.mem_univ _) (by decide)))
    isplitl [H0]; · iexact H0
    iexact H1
  iapply (slot_join rfl (wb_disj 2 (Finset.mem_univ _) 3 (Finset.mem_univ _) (by decide)))
  isplitl [H2]; · iexact H2
  iexact H3

/-! ## Slots as views with some contents -/

theorem owns_of_slot (c : Dev nD) {s : Shape} {e : EltTy} (M : Memref sig .tc .vmem s e) :
    (slot (M.view.loc (c : Thread nD τ)) M.view.set : sProp 𝕄) ⊢ iprop(∃ V, owns (c : Thread nD τ) M fullShare V) := by
  unfold slot owns
  iintro ⟨%f, H⟩
  iexists _, f
  isplitr; · ipureintro; rfl
  iexact H
theorem slot_of_owns (c : Dev nD) {s : Shape} {e : EltTy} (M : Memref sig .tc .vmem s e) (V) :
    (owns (c : Thread nD τ) M fullShare V : sProp 𝕄) ⊢ slot (M.view.loc (c : Thread nD τ)) M.view.set := by
  unfold slot owns
  iintro ⟨%f, -, H⟩
  iexists f
  iexact H
theorem some_ownX (c : Dev nD) (s : Bool) : slotX (F := F) c s ⊢ iprop(∃ V, ownX c s V) := by unfold slotX ownX; exact owns_of_slot c (xgM s)
theorem some_ownM (c : Dev nD) (s : Bool) : slotM (F := F) c s ⊢ iprop(∃ V, ownM c s V) := by unfold slotM ownM; exact owns_of_slot c (meM s)
theorem some_ownA (c : Dev nD) (s : Bool) : slotA (F := F) c s ⊢ iprop(∃ V, ownA c s V) := by unfold slotA ownA; exact owns_of_slot c (acM s)
theorem some_ownW (c : Dev nD) (j : Fin 4) : slotW (F := F) c j ⊢ iprop(∃ V, ownW c j V) := by
  unfold slotW ownW
  match j with
  | 0 => exact owns_of_slot c (wbS 0)
  | 1 => exact owns_of_slot c (wbS 1)
  | 2 => exact owns_of_slot c (wbS 2)
  | 3 => exact owns_of_slot c (wbS 3)
theorem slot_of_ownW (c : Dev nD) (j : Fin 4) (V) : ownW (F := F) c j V ⊢ slotW c j := by
  unfold slotW ownW
  match j with
  | 0 => exact slot_of_owns c (wbS 0) V
  | 1 => exact slot_of_owns c (wbS 1) V
  | 2 => exact slot_of_owns c (wbS 2) V
  | 3 => exact slot_of_owns c (wbS 3) V

end Cert.KernelIdeal.RingProof

end
-- ==== Proof.Ideal.Start.lean ====
/-
What the kernel does before its loop: the barrier, the first credits, and the slots it fills from its own inputs.
-/
module

public import proofs.«01_k».proof.Proof.Ideal.Regions

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

/-! ## Rules for the staged inputs and for filling a piece -/

/-- A staging or scratch buffer whole, holding `f`. -/
def stP (c : Dev nD) (b : Ref sig .tc) (f : Buf (Elt F) ((c : Thread nD τ).loc b)) : sProp 𝕄 := ((c : Thread nD τ).loc b ↦{fullShare} f)

theorem load_st (c : Dev nD) {s : Shape} {e : EltTy} {M : Memref sig .tc .vmem s e} {r : Rect s} {f : Buf (Elt F) (M.view.loc (c : Thread nD τ))}
    {hl : M.view.LoadsAt r.toLoadRect} {α : Type} {Q : α → sProp 𝕄} {k' : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ WP c (k' (M.view.readAt (Elt F) r.toLoadRect f)) Q)
        -∗ WP c (.op (.load M r.toLoadRect hl) k') Q) := by
  iintro H Hk
  iapply (wp_load 𝒱₀ (c : Thread nD τ) none Set.univ (m := M) (Finset.subset_univ _)) $$ H
  iintro H
  iapply Hk
  iexact H

/-- A load whose value is dropped and a store over the same piece. -/
theorem fill (c : Dev nD) {s : Shape} {e : EltTy} {M : Memref sig .tc .vmem s e} {r : Rect s} {hr : ∀ a, r.stride a = 1} {w : r.shape.Idx → Elt F e}
    {hl : M.view.LoadsAt r.toLoadRect} {hx : (M.access r).Stores Finset.univ} {hm : (Finset.univ : Finset r.shape.Idx) = Finset.univ ∨ ∀ a, r.stride a = 1}
    {α : Type} {Q : α → sProp 𝕄} {k' : PUnit → Prog (TpuEff nD τ sig (Elt F) Λ₀ .tc) α} :
    (iprop(∃ V, owns (c : Thread nD τ) (M.slice r hr) fullShare V) : sProp 𝕄)
      ⊢ iprop((owns (c : Thread nD τ) (M.slice r hr) fullShare w -∗ WP c (k' ⟨⟩) Q)
        -∗ WP c (.op (.load M r.toLoadRect hl : TpuEff nD τ sig (Elt F) Λ₀ .tc (r.shape.Idx → Elt F e)) fun _ => .op (.store M r w Finset.univ hx hm) k') Q) := by
  iintro ⟨%V, H⟩ Hk
  iapply (load_owns c (hr := hr)) $$ H
  iintro H
  iapply (store_owns c (hr := hr)) $$ [H]
  · iexists V; iexact H
  iexact Hk

/-! ## The barrier -/

theorem wait_bar (c : Dev nD) (O : CT) (hO : Above 1 O) {a : ℕ} (ha : a = 2)
    {α : Type} {Q : α → sProp 𝕄} {k' : PUnit → Prog (TpuEff nD τ sig (Elt F) Λ₀ .tc) α} :
    iprop(recs m K ∗ cred (tallyAt (cell c .bar) 0 2) ∗ Owe c O ∗ pos c .bar 0)
      ⊢ iprop(((Owe c O ∗ pos c .bar 1) -∗ WP c (k' ⟨⟩) Q) -∗ WP c (.op (.semWait barS a) k') Q) := by
  subst ha
  unfold Owe pos
  iintro ⟨#Hr, Hc, ⟨%W, Ho⟩, ⟨Hat, -⟩⟩ Hk
  ihave #Hi := (recs_inv m K c .bar) $$ Hr
  iapply (Rounds.wp_wait_rest_token 𝒱₀ ER (Rd m) (c : Thread nD τ) none (κ := K.cell (c, .bar)) (wpE_semWait_eq 𝒱₀ (c : Thread nD τ) none Set.univ) (Set.mem_univ _) 0 (O := O) (W := W) (R := 0) (m := 0) (T := ∅)
      (by rw [expect_cell m c .bar 0]; decide)) $$ [Hc Ho Hat]
  · isplitr; · iexact Hi
    isplitl [Hc]; · iexact Hc
    isplitl [Ho]; · iexact Ho
    isplitr; · iapply ((recs_lev m K).trans (mayWait c (csem .bar) 0 1 O (by omega) (by rw [lv_cell]; exact le_rfl) hO)); iexact Hr
    iexact Hat
  iintro ⟨Ho, Hat, #Hre, -⟩
  iapply Hk
  isplitl [Ho]; · iexists _; iexact Ho
  isplitl [Hat]; · iexact Hat
  iexact Hre

theorem dev_WP (c : Dev nD) {α : Type} {Q : α → sProp 𝕄} {k' : Dev nD → Prog (TpuEff nD τ sig (Elt F) Λ₀ .tc) α} :
    WP c (k' c) Q ⊢ WP c (.op .deviceId k') Q := Entails.of_eq (wp_deviceId 𝒱₀ (c : Thread nD τ) none Set.univ (k := k')).symm

theorem part9 (c : Dev nD) :
    iprop(recs m K ∗ Owe c (O₀ c) ∗ dutyTok ER (cell (prv c) .bar) 0 0 ∗ dutyTok ER (cell (nxt c) .bar) 0 1 ∗ cred (tallyAt (cell c .bar) 0 2) ∗ pos c .bar 0)
      ⊢ WP c (k0_part9 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11) (fun r => iprop(⌜∃ v14 v25, r = ⟨c, wd c, v14, v25⟩⌝ ∗ Owe c (OF c 0) ∗ pos c .bar 1)) := by
  rw [k0_part9_eq_skeleton]
  unfold k0_part9_skel
  simp only [semSignalWord, semWaitWord, Prog.lift, Prog.bind_op, Prog.bind_ret, Prog.pure_eq_ret]
  iintro ⟨#Hr, Ho, Ht1, Ht2, Hc, Hp⟩
  iapply (dev_WP c)
  iapply (signal_bar m K c ⟨k0_dev1 c, k0_dev1_lt c⟩ (prv c) (dev1_eq c) 0 (by decide) (OF c 0 + tl (nxt c) .bar 0) rfl) $$ [Ho Ht1]
  · isplitr; · iexact Hr
    isplitl [Ho]; · unfold O₀; iexact Ho
    iexact Ht1
  iintro Ho
  iapply (signal_bar m K c ⟨k0_dev2 c, k0_dev2_lt c⟩ (nxt c) (dev2_eq c) 1 (by decide) (OF c 0) rfl) $$ [Ho Ht2]
  · isplitr; · iexact Hr
    isplitl [Ho]; · iexact Ho
    iexact Ht2
  iintro Ho
  iapply (wait_bar m K c (OF c 0) (above_OF c (h := 0) (by omega)) rfl) $$ [Hc Ho Hp]
  · isplitr; · iexact Hr
    isplitl [Hc]; · iexact Hc
    isplitl [Ho]; · iexact Ho
    iexact Hp
  iintro ⟨Ho, Hp⟩
  iapply (ret_WP c)
  isplitr; · ipureintro; exact ⟨_, _, rfl⟩
  isplitl [Ho]; · iexact Ho
  iexact Hp

theorem heard_none (c : Dev nD) : ⊢ heard (accFact (F := F) c) (Finset.range 0) := by
  unfold heard; rw [Finset.range_zero, bigSep_empty]; exact Entails.refl _

theorem part10 (c : Dev nD) (v14 : BitVec 32) :
    iprop(recs m K ∗ Owe c (OF c 0) ∗ hopSig c 0 ∗ slotX c true ∗ slotM c true ∗ slotA c true ∗ readerAt ES (c, true) 0 ∗ stP c cc0_stg3_0 (ewIn m c)
        ∗ slotW c 0 ∗ slotW c 1 ∗ slotW c 2)
      ⊢ WP c (k0_part10 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c v14) (fun r => iprop(⌜r = k0_pay30 (vw3 m c)⌝ ∗ Owe c (OF c 1 + O3 c 0) ∗ readerAt ES (c, true) 1
        ∗ heard (accFact (F := F) c) (Finset.range 1) ∗ stP c cc0_stg3_0 (ewIn m c) ∗ ownW c 0 (eb0 m c) ∗ ownW c 1 (eb1 m c) ∗ ownW c 2 (eb2 m c))) := by
  rw [k0_part10_eq_skeleton]
  unfold k0_part10_skel
  simp only [semSignalWord, semWaitWord, Prog.lift, Prog.bind_op, Prog.bind_ret, Prog.pure_eq_ret]
  unfold hopSig
  iintro ⟨#Hr, Ho, ⟨Ht1, Ht2⟩, Hx, Hm, Ha, Hrd, Hew, H0, H1, H2⟩
  ihave #Hz := (recs_zero m K (prv c) .xc) $$ Hr
  ihave #Hzx := (recs_zero m K c (.xr true)) $$ Hr
  ihave #Hzm := (recs_zero m K c (.mr true)) $$ Hr
  ihave #Hza := (recs_zero m K c (.ar true)) $$ Hr
  iapply (signal_xc m K c ⟨k0_dev3 c, k0_dev3_lt c⟩ (dev3_eq c) 0 (by omega) (OF c 1 + O3 c 0 + tl (prv c) .ac 0) rfl) $$ [Ho Ht1 Hx Hm]
  · isplitr; · iexact Hr
    isplitl [Ho]
    · ihave H := (Entails.of_eq (show Owe (F := F) c (OF c 0) = Owe c (OF c 1 + O3 c 0 + tl (prv c) .ac 0 + tl (prv c) .xc 0) by
        rw [OF_succ c (show 0 < 32 by omega), O5, ← add_assoc, ← add_assoc])) $$ Ho
      iexact H
    isplitl [Ht1]; · iexact Ht1
    isplitr; · iexact Hz
    isplitl [Hx]; · iexact Hx
    isplitl [Hm]; · iexact Hm
    isplitr; · iexact Hzx
    iexact Hzm
  iintro Ho
  iapply (signal_ac m K c ⟨k0_dev4 c, k0_dev4_lt c⟩ (dev4_eq c) 0 (by omega) (OF c 1 + O3 c 0) rfl) $$ [Ho Ht2 Ha Hrd]
  · isplitr; · iexact Hr
    isplitl [Ho]; · iexact Ho
    isplitl [Ht2]; · iexact Ht2
    isplitl [Ha]; · iexact Ha
    isplitl [Hrd]; · iexact Hrd
    isplitr; · iexact Hza
    iapply (heard_none (F := F) c)
  iintro ⟨Ho, Hrd, #Hh⟩
  unfold stP ownW
  iapply (load_st c (M := ewM)) $$ Hew
  iintro Hew
  iapply (fill c (M := wbM) (hr := fun _ => rfl)) $$ [H0]
  · iapply (some_ownW c 0); iexact H0
  iintro H0
  iapply (load_st c (M := ewM)) $$ Hew
  iintro Hew
  iapply (fill c (M := wbM) (hr := fun _ => rfl)) $$ [H1]
  · iapply (some_ownW c 1); iexact H1
  iintro H1
  iapply (load_st c (M := ewM)) $$ Hew
  iintro Hew
  iapply (fill c (M := wbM) (hr := fun _ => rfl)) $$ [H2]
  · iapply (some_ownW c 2); iexact H2
  iintro H2
  iapply (load_st c (M := ewM)) $$ Hew
  iintro Hew
  iapply (ret_WP c)
  isplitr; · ipureintro; rfl
  isplitl [Ho]; · iexact Ho
  isplitl [Hrd]; · iexact Hrd
  isplitr; · iexact Hh
  isplitl [Hew]; · iexact Hew
  isplitl [H0]; · iexact H0
  isplitl [H1]; · iexact H1
  iexact H2

theorem part11 (c : Dev nD) :
    iprop(slotW c 3 ∗ stP c cc0_stg0_0 (xIn m c) ∗ stP c cc0_stg1_0 (rwIn m c) ∗ stP c cc0_stg2_0 (ixIn m c))
      ⊢ WP c (k0_part11 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 (k0_pay30 (vw3 m c))) (fun r => iprop(⌜r = ⟨k0_pay32 (vx m c), ga m c, gb m c, ia m c⟩⌝
        ∗ ownW c 3 (eb3 m c) ∗ stP c cc0_stg0_0 (xIn m c) ∗ stP c cc0_stg1_0 (rwIn m c) ∗ stP c cc0_stg2_0 (ixIn m c))) := by
  rw [k0_part11_eq_skeleton]
  unfold k0_part11_skel
  simp only [Prog.lift, Prog.bind_op, Prog.bind_ret, Prog.pure_eq_ret]
  iintro ⟨H3, Hx, Hrw, Hix⟩
  unfold stP ownW
  iapply (fill c (M := wbM) (hr := fun _ => rfl)) $$ [H3]
  · iapply (some_ownW c 3); iexact H3
  iintro H3
  iapply (load_st c (M := xM)) $$ Hx
  iintro Hx
  iapply (load_st c (M := rwM)) $$ Hrw
  iintro Hrw
  iapply (load_st c (M := ixM)) $$ Hix
  iintro Hix
  iapply (load_st c (M := ixM)) $$ Hix
  iintro Hix
  iapply (load_st c (M := ixM)) $$ Hix
  iintro Hix
  iapply (ret_WP c)
  isplitr; · ipureintro; rfl
  isplitl [H3]; · iexact H3
  isplitl [Hx]; · iexact Hx
  isplitl [Hrw]; · iexact Hrw
  iexact Hix

/-- What the first share is made from, after the first expert. -/
theorem part12 (c : Dev nD) :
    iprop(stP c cc0_stg2_0 (ixIn m c) ∗ slotM c false ∗ slotX c false ∗ ownW c 0 (eb0 m c))
      ⊢ WP c (k0_part12 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 (wd c) (k0_pay32 (vx m c)) (ga m c) (gb m c) (ia m c))
        (fun r => iprop(⌜r = ⟨k0_pay42 (k0_pay32 (vx m c)), k0_pay45 (ga m c) (gb m c) (ia m c) (vi1 m c), k0_pay46 (ga m c) (gb m c) (ia m c) (vi1 m c),
            k0_pay47 (ga m c) (gb m c) (ia m c) (vi1 m c), k0_pay48 (ga m c) (gb m c) (ia m c) (vi1 m c),
            k0_pay49 (wd c) (k0_pay32 (vx m c)) (ga m c) (gb m c) (ia m c) (vi1 m c) (eb0 m c), Scalar.muli (wd c) 4#32, 1#32⟩⌝
          ∗ stP c cc0_stg2_0 (ixIn m c) ∗ ownM c false (Mt m c) ∗ ownX c false (X m c) ∗ ownW c 0 (eb0 m c))) := by
  rw [k0_part12_eq_skeleton]
  unfold k0_part12_skel
  simp only [Prog.lift, Prog.bind_op, Prog.bind_ret, Prog.pure_eq_ret]
  iintro ⟨Hix, Hm, Hx, H0⟩
  unfold stP ownW ownM ownX
  iapply (load_st c (M := ixM)) $$ Hix
  iintro Hix
  iapply (fill c (M := mtM) (hr := fun _ => rfl)) $$ [Hm]
  · iapply (some_ownM c false); iexact Hm
  iintro Hm
  iapply (fill c (M := pkM) (hr := fun _ => rfl)) $$ [Hx]
  · iapply (some_ownX c false); iexact Hx
  iintro Hx
  iapply (load_owns c (M := wbM) (hr := fun _ => rfl)) $$ H0
  iintro H0
  iapply (ret_WP c)
  isplitr; · ipureintro; rfl
  isplitl [Hix]; · iexact Hix
  isplitl [Hm]; · iexact Hm
  isplitl [Hx]; · iexact Hx
  iexact H0

theorem part13 (c : Dev nD) (v108 : FVec F S1024x512 .bf16) (v114 v115 v116 v117 : FVec F S1024x1 .f32) (v138 : FVec F S1024x1024 .f32) (a b : BitVec 32) :
    iprop(ownW c 1 (eb1 m c) ∗ ownW c 2 (eb2 m c))
      ⊢ WP c (k0_part13 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 (wd c) v108 v114 v115 v116 v117 v138 a b)
        (fun r => iprop(⌜r = ⟨k0_pay50 (wd c) v108 v114 v115 v116 v117 v138 a b (eb1 m c) (eb2 m c), k0_pay52 (wd c) v114 v116, k0_pay53 (wd c)⟩⌝
          ∗ ownW c 1 (eb1 m c) ∗ ownW c 2 (eb2 m c))) := by
  rw [k0_part13_eq_skeleton]
  unfold k0_part13_skel
  simp only [Prog.lift, Prog.bind_op, Prog.bind_ret, Prog.pure_eq_ret]
  iintro ⟨H1, H2⟩
  unfold ownW
  iapply (load_owns c (M := wbM) (hr := fun _ => rfl)) $$ H1
  iintro H1
  iapply (load_owns c (M := wbM) (hr := fun _ => rfl)) $$ H2
  iintro H2
  iapply (ret_WP c)
  isplitr; · ipureintro; rfl
  isplitl [H1]; · iexact H1
  iexact H2

end Cert.KernelIdeal.RingProof

end
-- ==== Proof.Ideal.Finish.lean ====
/-
The loop as a whole, and what the kernel does after it: the last waits and its cells closed.
-/
module

public import proofs.«01_k».proof.Proof.Ideal.Start

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

/-! ## The cells, closed -/

theorem bigSep_CK {M : Type} [URA M] (Φ : CK → sProp M) : bigSep Finset.univ Φ
    = iprop(Φ .bar ∗ Φ .xc ∗ Φ .ac ∗ Φ (.xs false) ∗ Φ (.xs true) ∗ Φ (.xr false) ∗ Φ (.xr true) ∗ Φ (.ms false) ∗ Φ (.ms true) ∗ Φ (.mr false) ∗ Φ (.mr true) ∗ Φ (.as false) ∗ Φ (.as true) ∗ Φ (.ar false) ∗ Φ (.ar true)) :=
  bigSep_univ_eq_bigSepL ([.bar, .xc, .ac, (.xs false), (.xs true), (.xr false), (.xr true), (.ms false), (.ms true), (.mr false), (.mr true), (.as false), (.as true), (.ar false), (.ar true)] : List CK) (by decide) (by decide) Φ

theorem close_one (c : Dev nD) (k : CK) : iprop(recs m K ∗ pos c k (lenK k)) ⊢ iprop(|={Set.univ}=> semVal (cell c k) 0) := by
  unfold pos
  iintro ⟨#Hr, ⟨Hat, -⟩⟩
  ihave #Hi := (recs_inv m K c k) $$ Hr
  iapply (Rounds.cell_close ER (Rd m) (κ := K.cell (c, k)) (Set.mem_univ _) (fun h => h) (R := lenK k) (duties_end m c k))
  isplitr; · iexact Hi
  iexact Hat

theorem close_all (c : Dev nD) : iprop(recs m K ∗ bigSep Finset.univ (fun k : CK => pos c k (lenK k)))
    ⊢ iprop(|={Set.univ}=> bigSep Finset.univ (fun k : CK => (semVal (cell c k) 0 : sProp 𝕄))) := by
  refine BIBase.Entails.trans ?_ (bigSep_fupd _ _)
  refine BIBase.Entails.trans ?_ (bigSep_mono (Φ := fun k => iprop(recs m K ∗ pos (F := F) c k (lenK k))) fun k _ => close_one m K c k)
  rw [bigSep_sep']
  iintro ⟨#Hr, H⟩
  isplitr
  · iapply (BI.bigSep_of_persistent (S := (Finset.univ : Finset CK)) (R := recs m K)); iexact Hr
  iexact H

/-- All accumulator credits taken: the cell's one round is over. -/
theorem ac_end (c : Dev nD) : iprop(recs m K ∗ acPos c 32) ⊢ iprop(|={Set.univ}=> pos c .ac 1) := by
  unfold acPos pos
  iintro ⟨#Hr, ⟨%S, %hS, Hat, -⟩⟩
  have hS' : S = Finset.range 32 := Finset.eq_of_subset_of_card_le hS.1 (by rw [Finset.card_range]; exact hS.2)
  subst hS'
  ihave #Hi := (recs_inv m K c .ac) $$ Hr
  iapply (Rounds.fupd_skip ER (Rd m) (κ := K.cell (c, .ac)) (g := cell c .ac) (R := 0) (m := 32) (T := Finset.range 32)
    (by rw [duties_cell m c .ac 0]; exact subset_rfl) (by rw [expect_cell m c .ac 0]; rfl) (Set.mem_univ _))
  isplitr; · iexact Hi
  iexact Hat

/-! ## The loop -/

theorem loop_WP (c : Dev nD) {body : Fin k0_t1_loop.trips → Unit → Prog (TpuEff nD τ sig (Elt F) Λ₀ .tc) Unit} (I : ℕ → sProp 𝕄)
    (hbody : ∀ t u, I t.val ⊢ WP c (body t u) (fun _ => I (t.val + 1))) {α : Type} {Q : α → sProp 𝕄} {k' : Unit → Prog (TpuEff nD τ sig (Elt F) Λ₀ .tc) α} :
    I 0 ⊢ iprop((I 16 -∗ WP c (k' ⟨⟩) Q) -∗ WP c (Scf.Loop.for k0_t1_loop k0_t1_ok ⟨⟩ body >>= k') Q) := by
  iintro H Hk
  iapply (Scf.wp_for_bind frame (wpE (defs₀ (F := F)) 𝒱₀ (c : Thread nD τ) none) Set.univ _ _ _ _ (⟨⟩ : Unit) _ (fun k _ => I k) hbody) $$ H
  rw [show Scf.trips k0_t1_loop.lb k0_t1_loop.ub k0_t1_loop.st = 16 by decide]
  iintro %a H
  iapply Hk
  iexact H

/-- After the last wait of part 14. -/
def Last (c : Dev nD) : sProp 𝕄 :=
  iprop(Owe c 0 ∗ RelD c 31 ∗ SentX c 31 ∗ SentM c 31 ∗ pos c (.ar true) 16 ∗ SentA c 31 ∗ GotX m c 31 ∗ GotM m c 31 ∗ Got m c 31
    ∗ (pos c (.xr true) 16 ∗ pos c (.mr true) 16 ∗ pos c (.ar false) 16) ∗ ownA c false (A m 31 (prv c)) ∗ weights m c)

set_option maxHeartbeats 1000000 in
theorem part14 (c : Dev nD) (v14 v25 : BitVec 32) (v108 : FVec F S1024x512 .bf16) (v115 v117 : FVec F S1024x1 .f32) (v178 : FVec F S1024x1024 .f32) (v186 v187 : FVec F S1024x1 .f32)
    (hA : k0_pay54 v108 v115 v117 v178 v186 v187 (eb3 m c) = A0 m c) :
    iprop(recs m K ∗ slotA c false ∗ ownW c 3 (eb3 m c) ∗ ((ownA c false (A m 0 c) ∗ ownW c 3 (eb3 m c)) -∗ Pre m c 0))
      ⊢ WP c (k0_part14 (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11 c (wd c) v14 v25 v108 v115 v117 v178 v186 v187) (fun _ => Last m c) := by
  rw [k0_part14_eq_skeleton]
  unfold k0_part14_skel
  simp only [Prog.lift, Prog.bind_op, Prog.bind_ret, Prog.pure_eq_ret]
  iintro ⟨#Hr, Ha, H3, Hpre⟩
  ihave H3 := (show ownW (F := F) c 3 (eb3 m c) ⊢ owns (c : Thread nD τ) (wbS 3) fullShare (eb3 m c) from Entails.refl _) $$ H3
  iapply (load_owns c (M := wbM) (hr := fun _ => rfl)) $$ H3
  iintro H3
  rw [hA]
  iapply (fill c (M := pkM) (hr := fun _ => rfl)) $$ [Ha]
  · iapply (some_ownA c false); iexact Ha
  iintro Ha
  ihave HP := Hpre $$ [Ha H3]
  · unfold ownA ownW
    isplitl [Ha]; · iexact Ha
    iexact H3
  iapply (loop_WP c (fun k => iprop(recs m K ∗ Inv m c k)) (fun t u => trip m K c v14 v25 _ _ _ _ _ _ t u)) $$ [HP]
  · isplitr; · iexact Hr
    ihave HI := (Entails.of_eq (show Pre m c 0 = Inv m c 0 from rfl)) $$ HP
    iexact HI
  rw [show Inv m c 16 = Post m c 31 from rfl]
  unfold Post Rest
  iintro ⟨-, ⟨Ho, H1, H2, H3, H4, H5, H6, H7, H8, ⟨Hp1, Hp2, Hp3, Hc, -, -⟩, Hw⟩⟩
  iapply (hop_ra m K c 31 (by omega) (OF c 32) (fun g u hg => absurd hg (Nat.lt_irrefl 0)) false false rfl) $$ [Ho Hp3 Hc]
  · isplitr; · iexact Hr
    isplitl [Ho]; · iexact Ho
    isplitl [Hp3]; · iexact Hp3
    iexact Hc
  iintro ⟨Ho, Hp3, Ha⟩
  iapply (ret_WP c)
  unfold Last
  isplitl [Ho]; · iexact Ho
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [Hp1 Hp2 Hp3]
  · isplitl [Hp1]; · iexact Hp1
    isplitl [Hp2]; · iexact Hp2
    iexact Hp3
  isplitl [Ha]; · iexact Ha
  iexact Hw

/-! ## The body -/

/-- What a device starts with besides its buffers. -/
def Ghost (c : Dev nD) : sProp 𝕄 :=
  iprop((dutyTok ER (cell (prv c) .bar) 0 0 ∗ dutyTok ER (cell (nxt c) .bar) 0 1 ∗ cred (tallyAt (cell c .bar) 0 2))
    ∗ bigSep Finset.univ (fun k : CK => pos c k 0) ∗ (readerAt ES (c, false) 0 ∗ readerAt ES (c, true) 0) ∗ later c 0)

def scr (c : Dev nD) : sProp 𝕄 :=
  iprop(slot ((c : Thread nD τ).loc cc0_scratch0) Finset.univ ∗ slot ((c : Thread nD τ).loc cc0_scratch1) Finset.univ
    ∗ slot ((c : Thread nD τ).loc cc0_scratch2) Finset.univ ∗ slot ((c : Thread nD τ).loc cc0_scratch3) Finset.univ)
def ins (c : Dev nD) : sProp 𝕄 := iprop(stP c cc0_stg0_0 (xIn m c) ∗ stP c cc0_stg1_0 (rwIn m c) ∗ stP c cc0_stg2_0 (ixIn m c) ∗ stP c cc0_stg3_0 (ewIn m c))

theorem ac_start (c : Dev nD) : pos (F := F) c .ac 0 ⊢ acPos c 0 := by
  unfold pos acPos
  iintro ⟨H, -⟩
  iexists ∅
  isplitr; · ipureintro; exact ⟨Finset.empty_subset _, Nat.zero_le _⟩
  isplitl [H]; · iexact H
  rw [bigSep_empty]; iempintro

/-- The result buffer: a load whose value is dropped and the store of the result. -/
theorem store_out (c : Dev nD) {w : FVec F S1024x1024 .f32} {hl : oM.view.LoadsAt (Rect.unit (s := S1024x1024) ![0, 0] S1024x1024.size inb_S1024x1024_S1024x1024_0_0).toLoadRect}
    {hx : (oM.access (Rect.unit (s := S1024x1024) ![0, 0] S1024x1024.size inb_S1024x1024_S1024x1024_0_0)).Stores Finset.univ} {hm} {α : Type} {Q : α → sProp 𝕄} {k' : PUnit → Prog (TpuEff nD τ sig (Elt F) Λ₀ .tc) α} :
    (iprop(∃ V, stP c cc0_stg4_0 V) : sProp 𝕄) ⊢ iprop((stP c cc0_stg4_0 w -∗ WP c (k' ⟨⟩) Q)
      -∗ WP c (.op (.load oM (Rect.unit (s := S1024x1024) ![0, 0] S1024x1024.size inb_S1024x1024_S1024x1024_0_0).toLoadRect hl : TpuEff nD τ sig (Elt F) Λ₀ .tc ((Rect.unit (s := S1024x1024) ![0, 0] S1024x1024.size inb_S1024x1024_S1024x1024_0_0).shape.Idx → Elt F .f32)) fun _ =>
        .op (.store oM (Rect.unit (s := S1024x1024) ![0, 0] S1024x1024.size inb_S1024x1024_S1024x1024_0_0) w Finset.univ hx hm) k') Q) := by
  unfold stP
  iintro ⟨%V, H⟩ Hk
  iapply (load_st c (M := oM)) $$ H
  iintro H
  iapply (wp_store 𝒱₀ (c : Thread nD τ) none Set.univ (m := oM) (r := Rect.unit (s := S1024x1024) ![0, 0] S1024x1024.size inb_S1024x1024_S1024x1024_0_0) (Mk := Finset.univ) (Finset.subset_univ _)) $$ H
  iintro H
  rw [show (oM.access (Rect.unit (s := S1024x1024) ![0, 0] S1024x1024.size inb_S1024x1024_S1024x1024_0_0)).write (Elt F) V w Finset.univ = w from
    Memref.write_access_unit_zero_univ (Elt F) cc0_stg4_0 hz _ V w]
  iapply Hk
  iexact H

/-- What a device ends with. -/
def Done (c : Dev nD) : sProp 𝕄 :=
  iprop(Owe c 0 ∗ bigSep Finset.univ (fun k : CK => (semVal (cell c k) 0 : sProp 𝕄)) ∗ scr c ∗ ins m c ∗ stP c cc0_stg4_0 (outAt m c))

set_option maxHeartbeats 1000000 in
theorem last_done (c : Dev nD) :
    iprop(recs m K ∗ Owe c 0 ∗ pos c .bar 1
        ∗ (pos c .xc 32 ∗ acPos c 32 ∗ pos c (.xs false) 16 ∗ pos c (.xs true) 16 ∗ pos c (.xr false) 16 ∗ pos c (.xr true) 16
          ∗ pos c (.ms false) 16 ∗ pos c (.ms true) 16 ∗ pos c (.mr false) 16 ∗ pos c (.mr true) 16
          ∗ pos c (.as false) 16 ∗ pos c (.as true) 16 ∗ pos c (.ar false) 16 ∗ pos c (.ar true) 16)
        ∗ (slotX c false ∗ slotX c true ∗ slotA c false ∗ slotA c true) ∗ (slotM c false ∗ slotM c true) ∗ (∃ V, ctP c V) ∗ weights m c
        ∗ ins m c ∗ stP c cc0_stg4_0 (outAt m c))
      ⊢ iprop(|={Set.univ}=> Done m c) := by
  unfold Done scr
  iintro ⟨#Hr, Ho, Hb, ⟨Hxc, Hac, H1, H2, H3, H4, H5, H6, H7, H8, H9, H10, H11, H12⟩, Hpk, Hmt, Hct, Hw, Hin, Hout⟩
  imod (ac_end m K c) $$ [Hac] with Hac
  · isplitr; · iexact Hr
    iexact Hac
  imod (close_all m K c) $$ [Hb Hxc Hac H1 H2 H3 H4 H5 H6 H7 H8 H9 H10 H11 H12] with Hz
  · isplitr; · iexact Hr
    rw [bigSep_CK]
    isplitl [Hb]; · iexact Hb
    isplitl [Hxc]; · iexact Hxc
    isplitl [Hac]; · iexact Hac
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  imodintro
  isplitl [Ho]; · iexact Ho
  isplitl [Hz]; · iexact Hz
  isplitl [Hpk Hmt Hct Hw]
  · isplitl [Hpk]; · iapply (join_pk c); iexact Hpk
    isplitl [Hmt]; · iapply (join_mt c); iexact Hmt
    isplitl [Hw]
    · iapply (join_wb c)
      unfold weights
      icases Hw with ⟨Hw0, Hw1, Hw2, Hw3⟩
      isplitl [Hw0]; · iapply (slot_of_ownW c 0 _); iexact Hw0
      isplitl [Hw1]; · iapply (slot_of_ownW c 1 _); iexact Hw1
      isplitl [Hw2]; · iapply (slot_of_ownW c 2 _); iexact Hw2
      iapply (slot_of_ownW c 3 _); iexact Hw3
    · unfold ctP slot
      icases Hct with ⟨%V, Hct⟩
      iexists V; iexact Hct
  isplitl [Hin]; · iexact Hin
  iexact Hout

end Cert.KernelIdeal.RingProof

end
-- ==== Proof.Ideal.Body.lean ====
/-
The kernel's body on one device, from what the device starts with to what it ends with.
-/
module

public import proofs.«01_k».proof.Proof.Ideal.Finish

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

theorem wp_ret_fupd (c : Dev nD) {α : Type} {a : α} {Q : α → sProp 𝕄} : iprop(|={Set.univ}=> Q a) ⊢ WP c (.ret a) Q := Entails.refl _

theorem slot_whole_ct (c : Dev nD) : (slot ((c : Thread nD τ).loc cc0_scratch3) Finset.univ : sProp 𝕄) = iprop(∃ V, ctP c V) := rfl

theorem later_zero (c : Dev nD) : later (F := F) c 0 = iprop((hopRes c 0 ∗ hopSig c 0) ∗ later c 1) := by
  unfold later; rw [Idealize.SL.BI.bigSep_Ico_succ_bot (show 0 < 32 by omega)]

/-- The parts before the loop give what the first hop needs. -/
theorem first (c : Dev nD) :
    iprop(Owe c (OF c 1 + O3 c 0) ∗ hopRes c 0 ∗ later c 1 ∗ (readerAt ES (c, false) 0 ∗ readerAt ES (c, true) 1) ∗ heard (accFact (F := F) c) (Finset.range 1)
        ∗ (pos c .xc 0 ∗ pos c .ac 0 ∗ pos c (.xs false) 0 ∗ pos c (.xs true) 0 ∗ pos c (.xr false) 0 ∗ pos c (.xr true) 0
          ∗ pos c (.ms false) 0 ∗ pos c (.ms true) 0 ∗ pos c (.mr false) 0 ∗ pos c (.mr true) 0
          ∗ pos c (.as false) 0 ∗ pos c (.as true) 0 ∗ pos c (.ar false) 0 ∗ pos c (.ar true) 0)
        ∗ ownM c false (Mt m c) ∗ ownX c false (X m c) ∗ (∃ V, ctP c V) ∗ ownW c 0 (eb0 m c) ∗ ownW c 1 (eb1 m c) ∗ ownW c 2 (eb2 m c))
      ⊢ iprop((ownA c false (A m 0 c) ∗ ownW c 3 (eb3 m c)) -∗ Pre m c 0) := by
  unfold Pre SendX SendM SendA RecvX RecvM Rest hopRes weights
  simp only [OweB, Rel, Acc]
  unfold RelD AccD
  iintro ⟨Ho, ⟨⟨Hc1, Hc2, Hc3, Hc4, Hc5⟩, ⟨Ht1, Ht2, Ht3⟩, ⟨Hn1, Hn2, Hn3⟩, Hwt⟩, Hl, ⟨Hrf, Hrt⟩, Hh, ⟨Hxc, Hac, Hxs0, Hxs1, Hxr0, Hxr1, Hms0, Hms1, Hmr0, Hmr1, Has0, Has1, Har0, Har1⟩,
    Hm, Hx, Hct, Hw0, Hw1, Hw2⟩ ⟨Ha, Hw3⟩
  isplitl [Ho]; · iexact Ho
  isplitl [Hxs1 Hms1 Has1 Hrt Hh]
  · isplitl [Hxs1]; · iexact Hxs1
    isplitl [Hms1]; · iexact Hms1
    isplitl [Has1]; · iexact Has1
    isplitl [Hrt]; · iexact Hrt
    iexact Hh
  isplitl [Hc1 Hxc Hxs0 Hx Ht1 Hn1]
  · isplitl [Hc1]; · iexact Hc1
    isplitl [Hxc]; · iexact Hxc
    isplitl [Hxs0]; · iexact Hxs0
    isplitl [Hx]; · iexact Hx
    isplitl [Ht1]; · iexact Ht1
    iexact Hn1
  isplitl [Hms0 Hm Ht2 Hn2]
  · isplitl [Hms0]; · iexact Hms0
    isplitl [Hm]; · iexact Hm
    isplitl [Ht2]; · iexact Ht2
    iexact Hn2
  isplitl [Har0 Ha Hct]
  · isplitl [Har0]; · iexact Har0
    isplitl [Ha]; · iexact Ha
    iexact Hct
  isplitl [Hc2 Hac Has0 Ht3 Hn3 Hwt]
  · isplitl [Hc2]; · iexact Hc2
    isplitl [Hac]; · iapply (ac_start (F := F) c); iexact Hac
    isplitl [Has0]; · iexact Has0
    isplitl [Ht3]; · iexact Ht3
    isplitl [Hn3]; · iexact Hn3
    iexact Hwt
  isplitl [Hc3 Hxr1]
  · isplitl [Hc3]; · iexact Hc3
    iexact Hxr1
  isplitl [Hc4 Hmr1]
  · isplitl [Hc4]; · iexact Hc4
    iexact Hmr1
  isplitl [Hxr0 Hmr0 Har1 Hc5 Hrf Hl]
  · isplitl [Hxr0]; · iexact Hxr0
    isplitl [Hmr0]; · iexact Hmr0
    isplitl [Har1]; · iexact Har1
    isplitl [Hc5]; · iexact Hc5
    isplitl [Hrf]; · iexact Hrf
    iexact Hl
  isplitl [Hw0]; · iexact Hw0
  isplitl [Hw1]; · iexact Hw1
  isplitl [Hw2]; · iexact Hw2
  iexact Hw3

set_option maxHeartbeats 2000000 in
/-- The kernel's body on device `c`. -/
theorem body (c : Dev nD) :
    iprop(recs m K ∗ Ghost c ∗ Owe c (O₀ c) ∗ scr c ∗ ins m c ∗ ∃ V, stP c cc0_stg4_0 V)
      ⊢ WP c (cc0_body (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11) (fun _ => Done m c) := by
  rw [cc0_body_eq_skeleton]
  unfold cc0_body_skel Ghost scr ins
  rw [later_zero, bigSep_CK, slot_whole_ct]
  iintro ⟨#Hr, ⟨⟨Hb1, Hb2, Hcb⟩, ⟨Hpb, Hpos⟩, ⟨Hrf, Hrt⟩, ⟨⟨Hres, Hsig⟩, Hl⟩⟩, Ho, ⟨Hpk, Hmt, Hwb, Hct⟩, ⟨Hx, Hrw, Hix, Hew⟩, Hout⟩
  ihave Hpk := (cut_pk c) $$ Hpk
  icases Hpk with ⟨Hx0, Hx1, Ha0, Ha1⟩
  ihave Hmt := (cut_mt c) $$ Hmt
  icases Hmt with ⟨Hm0, Hm1⟩
  ihave Hwb := (cut_wb c) $$ Hwb
  icases Hwb with ⟨Hw0, Hw1, Hw2, Hw3⟩
  iapply (seq_WP c _ (part9 m K c)) $$ [Ho Hb1 Hb2 Hcb Hpb]
  · isplitr; · iexact Hr
    isplitl [Ho]; · iexact Ho
    isplitl [Hb1]; · iexact Hb1
    isplitl [Hb2]; · iexact Hb2
    isplitl [Hcb]; · iexact Hcb
    iexact Hpb
  iintro %r ⟨%hr, Ho, Hpb⟩
  obtain ⟨v14, v25, hr⟩ := hr
  subst hr
  iapply (seq_WP c _ (part10 m K c v14)) $$ [Ho Hsig Hx1 Hm1 Ha1 Hrt Hew Hw0 Hw1 Hw2]
  · isplitr; · iexact Hr
    isplitl [Ho]; · iexact Ho
    isplitl [Hsig]; · iexact Hsig
    isplitl [Hx1]; · iexact Hx1
    isplitl [Hm1]; · iexact Hm1
    isplitl [Ha1]; · iexact Ha1
    isplitl [Hrt]; · iexact Hrt
    isplitl [Hew]; · iexact Hew
    isplitl [Hw0]; · iexact Hw0
    isplitl [Hw1]; · iexact Hw1
    iexact Hw2
  iintro %r ⟨%hr, Ho, Hrt, Hh, Hew, Hw0, Hw1, Hw2⟩
  subst hr
  iapply (seq_WP c _ (part11 m c)) $$ [Hw3 Hx Hrw Hix]
  · isplitl [Hw3]; · iexact Hw3
    isplitl [Hx]; · iexact Hx
    isplitl [Hrw]; · iexact Hrw
    iexact Hix
  iintro %r ⟨%hr, Hw3, Hx, Hrw, Hix⟩
  subst hr
  iapply (seq_WP c _ (part12 m c)) $$ [Hix Hm0 Hx0 Hw0]
  · isplitl [Hix]; · iexact Hix
    isplitl [Hm0]; · iexact Hm0
    isplitl [Hx0]; · iexact Hx0
    iexact Hw0
  iintro %r ⟨%hr, Hix, Hm0, Hx0, Hw0⟩
  subst hr
  iapply (seq_WP c _ (part13 m c _ _ _ _ _ _ _ _)) $$ [Hw1 Hw2]
  · isplitl [Hw1]; · iexact Hw1
    iexact Hw2
  iintro %r ⟨%hr, Hw1, Hw2⟩
  subst hr
  ihave Hpre := (first m c) $$ [Ho Hres Hl Hrf Hrt Hh Hpos Hm0 Hx0 Hct Hw0 Hw1 Hw2]
  · isplitl [Ho]; · iexact Ho
    isplitl [Hres]; · iexact Hres
    isplitl [Hl]; · iexact Hl
    isplitl [Hrf Hrt]
    · isplitl [Hrf]; · iexact Hrf
      iexact Hrt
    isplitl [Hh]; · iexact Hh
    isplitl [Hpos]; · iexact Hpos
    isplitl [Hm0]; · iexact Hm0
    isplitl [Hx0]; · iexact Hx0
    isplitl [Hct]; · iexact Hct
    isplitl [Hw0]; · iexact Hw0
    isplitl [Hw1]; · iexact Hw1
    iexact Hw2
  iapply (seq_WP c _ (part14 m K c v14 v25 _ _ _ _ _ _ rfl)) $$ [Ha0 Hw3 Hpre]
  · isplitr; · iexact Hr
    isplitl [Ha0]; · iexact Ha0
    isplitl [Hw3]; · iexact Hw3
    iexact Hpre
  iintro %u Hlast
  simp only [Prog.lift, Prog.bind_op, Prog.bind_ret, Prog.pure_eq_ret]
  unfold Last RelD SentX SentM SentA GotX GotM Got
  icases Hlast with ⟨Ho, ⟨Hxs0, Hms0, Has0, -, -⟩, ⟨Hxc, Hcx, Hxs1⟩, ⟨Hcm, Hms1⟩, Har1, ⟨Hac, Hca, Has1⟩, ⟨Hxr0, Hx0, -⟩, ⟨Hmr0, Hm0⟩, ⟨%V, -, Hct⟩,
    ⟨Hxr1, Hmr1, Har0⟩, Ha0, Hw⟩
  iapply (wait_xs m K c true true 31 0 rfl (by omega) (fun g u hg => absurd hg (Nat.lt_irrefl 0))) $$ [Hcx Ho Hxs1]
  · isplitr; · iexact Hr
    isplitl [Hcx]; · iexact Hcx
    isplitl [Ho]; · iexact Ho
    iexact Hxs1
  iintro ⟨Ho, Hxs1, Hx1⟩
  iapply (wait_ms m K c true true 31 0 rfl (by omega) (fun g u hg => absurd hg (Nat.lt_irrefl 0))) $$ [Hcm Ho Hms1]
  · isplitr; · iexact Hr
    isplitl [Hcm]; · iexact Hcm
    isplitl [Ho]; · iexact Ho
    iexact Hms1
  iintro ⟨Ho, Hms1, Hm1⟩
  iapply (wait_as m K c true true 31 0 rfl (by omega) (fun g u hg => absurd hg (Nat.lt_irrefl 0))) $$ [Hca Ho Has1]
  · isplitr; · iexact Hr
    isplitl [Hca]; · iexact Hca
    isplitl [Ho]; · iexact Ho
    iexact Has1
  iintro ⟨Ho, Has1, Ha1⟩
  ihave Hx1 := (Entails.of_eq (show payK m c (.xs true) (31 / 2) 0 = ownX c true (X m (back c 31)) from pay_xs m c 31 0)) $$ Hx1
  ihave Hm1 := (Entails.of_eq (show payK m c (.ms true) (31 / 2) 0 = ownM c true (Mt m (back c 31)) from pay_ms m c 31 0)) $$ Hm1
  ihave Ha1 := (Entails.of_eq (show payK m c (.as true) (31 / 2) 0 = ownA c true (A m 31 c) from pay_as m c 31 0)) $$ Ha1
  ihave Hx1 := (slot_of_ownX c true _) $$ Hx1
  ihave Hm1 := (slot_of_ownM c true _) $$ Hm1
  ihave Ha1 := (slot_of_ownA c true _) $$ Ha1
  ihave Hx0 := (slot_of_ownX c (!sl 31) _) $$ Hx0
  ihave Hm0 := (slot_of_ownM c (!sl 31) _) $$ Hm0
  unfold ownA
  iapply (load_owns c (M := pkM) (hr := fun _ => rfl)) $$ Ha0
  iintro Ha0
  iapply (store_out c) $$ Hout
  iintro Hout
  ihave Ha0 := (slot_of_ownA c false (A m 31 (prv c))) $$ [Ha0]
  · unfold ownA; iexact Ha0
  iapply (wp_ret_fupd c)
  iapply (last_done m K c)
  isplitr; · iexact Hr
  isplitl [Ho]; · iexact Ho
  isplitl [Hpb]; · iexact Hpb
  isplitl [Hxc Hac Hxs0 Hxs1 Hxr0 Hxr1 Hms0 Hms1 Hmr0 Hmr1 Has0 Has1 Har0 Har1]
  · isplitl [Hxc]; · iexact Hxc
    isplitl [Hac]; · iexact Hac
    isplitl [Hxs0]; · iexact Hxs0
    isplitl [Hxs1]; · iexact Hxs1
    isplitl [Hxr0]; · iexact Hxr0
    isplitl [Hxr1]; · iexact Hxr1
    isplitl [Hms0]; · iexact Hms0
    isplitl [Hms1]; · iexact Hms1
    isplitl [Hmr0]; · iexact Hmr0
    isplitl [Hmr1]; · iexact Hmr1
    isplitl [Has0]; · iexact Has0
    isplitl [Has1]; · iexact Has1
    isplitl [Har0]; · iexact Har0
    iexact Har1
  isplitl [Hx0 Hx1 Ha0 Ha1]
  · isplitl [Hx0]; · iexact Hx0
    isplitl [Hx1]; · iexact Hx1
    isplitl [Ha0]; · iexact Ha0
    iexact Ha1
  isplitl [Hm0 Hm1]
  · isplitl [Hm0]; · iexact Hm0
    iexact Hm1
  isplitl [Hct]; · iexists V; iexact Hct
  isplitl [Hw]; · iexact Hw
  isplitl [Hx Hrw Hix Hew]
  · unfold ins
    isplitl [Hx]; · iexact Hx
    isplitl [Hrw]; · iexact Hrw
    isplitl [Hix]; · iexact Hix
    iexact Hew
  unfold outAt
  iexact Hout

end Cert.KernelIdeal.RingProof

end
-- ==== Proof.Ideal.Deal.lean ====
/-
What the launch deals to the devices: one token per duty, one token per write to a handed-over slot, and the credit for
what the neighbours owe. Everything is dealt per device and then passed around the ring to the device that pays.
-/
module

public import proofs.«01_k».proof.Proof.Ideal.Body

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

/-! ## The duties -/

/-- The cells a hop uses, with the round and the duty it pays in each. -/
def hopTok (h : ℕ) : Fin 8 → CK × ℕ × ℕ
  | 0 => (.xc, h, 0) | 1 => (.ac, 0, h)
  | 2 => (.xs (sl h), h / 2, 0) | 3 => (.ms (sl h), h / 2, 0) | 4 => (.as (sl h), h / 2, 0)
  | 5 => (.xr (!sl h), h / 2, 0) | 6 => (.mr (!sl h), h / 2, 0) | 7 => (.ar (!sl h), h / 2, 0)
/-- The duties of a device's cells: two of its barrier, and eight for each hop. -/
def devTok : Bool ⊕ (Fin 32 × Fin 8) → CK × ℕ × ℕ
  | .inl b => (.bar, 0, b.toNat)
  | .inr x => hopTok x.1 x.2

/-- The hop and the place a duty was listed at. -/
def findTok : CK × ℕ × ℕ → ℕ × ℕ
  | (.bar, _, d) => (d, 8) | (.xc, r, _) => (r, 0) | (.ac, _, d) => (d, 1)
  | (.xs s, r, _) => (2 * r + s.toNat, 2) | (.ms s, r, _) => (2 * r + s.toNat, 3) | (.as s, r, _) => (2 * r + s.toNat, 4)
  | (.xr s, r, _) => (2 * r + (!s).toNat, 5) | (.mr s, r, _) => (2 * r + (!s).toNat, 6) | (.ar s, r, _) => (2 * r + (!s).toNat, 7)
def seat : Bool ⊕ (Fin 32 × Fin 8) → ℕ × ℕ
  | .inl b => (b.toNat, 8)
  | .inr x => (x.1, x.2)
theorem findTok_devTok (x : Bool ⊕ (Fin 32 × Fin 8)) : findTok (devTok x) = seat x := by revert x; decide
theorem seat_injective : Function.Injective seat := by
  rintro (b | ⟨h, i⟩) (b' | ⟨h', i'⟩) e
  · cases b <;> cases b' <;> first | rfl | exact absurd (congrArg Prod.fst e) (by decide)
  · have h8 : 8 = i'.val := congrArg Prod.snd e
    omega
  · have h8 : i.val = 8 := congrArg Prod.snd e
    omega
  · have e1 : h = h' := Fin.ext (congrArg Prod.fst e)
    have e2 : i = i' := Fin.ext (congrArg Prod.snd e)
    rw [e1, e2]
theorem devTok_injective : Function.Injective devTok := fun x y e =>
  seat_injective (by rw [← findTok_devTok, ← findTok_devTok, e])

theorem cell_injective : Function.Injective (fun x : Dev nD × CK => cell x.1 x.2) := by
  rintro ⟨c, k⟩ ⟨c', k'⟩ h
  have h1 : c = c' := congrArg (fun g : GSem nD τ sig => g.1.1) h
  have h2 : csem k = csem k' := congrArg Prod.snd h
  rw [h1, csem_inj h2]
def ringCells : Finset (GSem nD τ sig) := Finset.univ.map ⟨_, cell_injective⟩

def tokOf (x : Dev nD × (Bool ⊕ (Fin 32 × Fin 8))) : GSem nD τ sig × ℕ × ℕ := (cell x.1 (devTok x.2).1, (devTok x.2).2)
theorem tokOf_injective : Function.Injective tokOf := by
  rintro ⟨c, x⟩ ⟨c', x'⟩ h
  have h1 := cell_injective (a₁ := (c, (devTok x).1)) (a₂ := (c', (devTok x').1)) (congrArg Prod.fst h)
  have h2 : devTok x = devTok x' := Prod.ext (congrArg Prod.snd h1) (show (devTok x).2 = (devTok x').2 from congrArg (fun z : GSem nD τ sig × ℕ × ℕ => z.2) h)
  rw [devTok_injective h2, show c = c' from congrArg Prod.fst h1]
def ringToks : Finset (GSem nD τ sig × ℕ × ℕ) := Finset.univ.map ⟨tokOf, tokOf_injective⟩

def slotKeys : Finset (Dev nD × Bool) := Finset.univ

def u₀ : UU :=
  (initOf (Pipeline.cells cfgs cellOf_inj) (Pipeline.launchToks cfgs cellOf_inj), (initOf ringCells ringToks, initSlots slotKeys 16))

abbrev tk (c : Dev nD) (x : CK × ℕ × ℕ) : sProp 𝕄 := dutyTok ER (cell c x.1) x.2.1 x.2.2
/-- The tokens of a device's own cells. -/
def toks (c : Dev nD) : sProp 𝕄 :=
  iprop((tk c (.bar, 0, 0) ∗ tk c (.bar, 0, 1)) ∗ bigSep Finset.univ (fun h : Fin 32 => bigSep Finset.univ (fun i => tk (F := F) c (hopTok h i))))

def slotFund (c : Dev nD) : sProp 𝕄 := if c = 0 then BI.own (ES (initSlots slotKeys 16)) else iprop(emp)
/-- What a device gets of the launch's resources. -/
def G (c : Dev nD) : sProp 𝕄 :=
  iprop((bigSep Finset.univ fun k : CK => roundState ER (Rd m) (cell c k) 0)
    ∗ (bigSep Finset.univ fun k : CK => pos c k 0) ∗ toks c ∗ slotFund c)

theorem cells_eq (Φ : GSem nD τ sig → sProp 𝕄) :
    bigSep ringCells Φ = bigSep Finset.univ fun c : Dev nD => bigSep Finset.univ fun k : CK => Φ (cell c k) := by
  unfold ringCells; rw [bigSep_map, bigSep_univ_prod]; rfl
theorem toks_eq : bigSep ringToks (fun x => (dutyTok ER x.1 x.2.1 x.2.2 : sProp 𝕄)) = bigSep Finset.univ fun c : Dev nD => toks c := by
  unfold ringToks; rw [bigSep_map, bigSep_univ_prod]
  refine bigSep_congr fun c _ => ?_
  rw [bigSep_univ_sum, bigSep_univ_prod, bigSep_univ_eq_bigSepL [false, true] (by decide) (by decide)]
  rfl
theorem slotFund_intro : BI.own (ES (initSlots slotKeys 16)) ⊢ (bigSep Finset.univ fun c : Dev nD => slotFund (F := F) c) := by
  have hrest : (bigSep (Finset.univ.erase (0 : Dev nD)) fun c => slotFund (F := F) c) = iprop(emp) := by
    refine (bigSep_congr (Ψ := fun _ => (iprop(emp) : sProp 𝕄)) fun c hc => ?_).trans (BI.bigSep_emp_const _)
    unfold slotFund; exact if_neg (Finset.mem_erase.mp hc).1
  rw [bigSep_univ_at _ (0 : Dev nD), hrest]
  iintro H
  isplitl [H]
  · unfold slotFund; rw [if_pos rfl]; iexact H
  · iempintro
theorem slotFund_elim : (bigSep Finset.univ fun c : Dev nD => slotFund (F := F) c) ⊢ BI.own (ES (initSlots slotKeys 16)) := by
  refine BIBase.Entails.trans (bigSep_elim (Finset.mem_univ (0 : Dev nD))) (Entails.of_eq ?_)
  unfold slotFund; exact if_pos rfl

theorem fund_ring : BI.own (EX (initOf ringCells ringToks, initSlots slotKeys 16)) ⊢ (|==> bigSep Finset.univ (G m) : sProp 𝕄) := by
  iintro HX
  ihave HX := (own_pair_emb EX _ _) $$ HX
  icases HX with ⟨HR, HS⟩
  imod (Rounds.fund ER (Rd m) ringCells ringToks) $$ HR with ⟨Hst, Hr, Hat, Htok⟩
  imodintro
  ihave Hst' := (Entails.of_eq (cells_eq fun g => roundState ER (Rd m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq (toks_eq (F := F))) $$ Htok
  ihave HS' := (slotFund_intro (F := F)) $$ HS
  unfold G; simp only [pos, bigSep_sep']
  isplitl [Hst']; · iexact Hst'
  isplitl [Hat' Hr']
  · isplitl [Hat'] <;> iassumption
  isplitl [Htok']; · iexact Htok'
  iexact HS'

/-! ## Around the ring -/

theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem hopToks_eq (c : Dev nD) (h : ℕ) : (bigSep Finset.univ (fun i => tk (F := F) c (hopTok h i)))
    = iprop(tk c (.xc, h, 0) ∗ tk c (.ac, 0, h) ∗ tk c (.xs (sl h), h / 2, 0) ∗ tk c (.ms (sl h), h / 2, 0) ∗ tk c (.as (sl h), h / 2, 0)
      ∗ tk c (.xr (!sl h), h / 2, 0) ∗ tk c (.mr (!sl h), h / 2, 0) ∗ tk c (.ar (!sl h), h / 2, 0)) := by
  rw [bigSep_fin8]; simp only [hopTok]

/-- The tokens of the duties a device pays. -/
def payToks (c : Dev nD) : sProp 𝕄 :=
  iprop((tk (prv c) (.bar, 0, 0) ∗ tk (nxt c) (.bar, 0, 1)) ∗ bigSep Finset.univ (fun h : Fin 32 =>
    iprop(tk (F := F) (prv c) (.xc, h, 0) ∗ tk (prv c) (.ac, 0, h) ∗ tk c (.xs (sl h), h / 2, 0) ∗ tk c (.ms (sl h), h / 2, 0) ∗ tk c (.as (sl h), h / 2, 0)
      ∗ tk (nxt c) (.xr (!sl h), h / 2, 0) ∗ tk (nxt c) (.mr (!sl h), h / 2, 0) ∗ tk (nxt c) (.ar (!sl h), h / 2, 0))))

theorem deal_nxt (Φ : Dev nD → sProp 𝕄) : bigSep Finset.univ Φ = bigSep Finset.univ fun c => Φ (nxt c) := bigSep_univ_equiv ring Φ
theorem deal_prv (Φ : Dev nD → sProp 𝕄) : bigSep Finset.univ Φ = bigSep Finset.univ fun c => Φ (prv c) := bigSep_univ_equiv ring.symm Φ

theorem toks_around : (bigSep Finset.univ fun c : Dev nD => toks (F := F) c) ⊢ bigSep Finset.univ fun c : Dev nD => payToks (F := F) c := by
  unfold toks payToks
  simp only [hopToks_eq, bigSep_sep']
  refine BI.sep_mono (BI.sep_mono (Entails.of_eq (deal_prv _)) (Entails.of_eq (deal_nxt _))) ?_
  refine BI.sep_mono (Entails.of_eq (deal_prv fun c => bigSep Finset.univ fun h : Fin 32 => tk c (.xc, h, 0))) ?_
  refine BI.sep_mono (Entails.of_eq (deal_prv fun c => bigSep Finset.univ fun h : Fin 32 => tk c (.ac, 0, h))) ?_
  refine BI.sep_mono_r (BI.sep_mono_r (BI.sep_mono_r ?_))
  refine BI.sep_mono (Entails.of_eq (deal_nxt fun c => bigSep Finset.univ fun h : Fin 32 => tk c (.xr (!sl h), h / 2, 0))) ?_
  exact BI.sep_mono (Entails.of_eq (deal_nxt fun c => bigSep Finset.univ fun h : Fin 32 => tk c (.mr (!sl h), h / 2, 0)))
    (Entails.of_eq (deal_nxt fun c => bigSep Finset.univ fun h : Fin 32 => tk c (.ar (!sl h), h / 2, 0)))

/-! ## The handed-over slots -/

/-- A hop's slot and the number of times the slot was used before, as a write of that slot. -/
def hopWrite (h : Fin 32) : Bool × Fin 16 := (!sl h, ⟨h.val / 2, by omega⟩)
def hopOf (x : Bool × Fin 16) : Fin 32 := ⟨2 * x.2.val + (!x.1).toNat, by have := Bool.toNat_lt (!x.1); omega⟩
def hopEquiv : Fin 32 ≃ Bool × Fin 16 := ⟨hopWrite, hopOf, by unfold Function.LeftInverse; decide, by unfold Function.RightInverse Function.LeftInverse; decide⟩

def writeEmb : ((Dev nD × Bool) × Fin 16) ↪ (Dev nD × Bool) × ℕ :=
  ⟨fun x => (x.1, x.2.val), fun x y h => Prod.ext (congrArg (fun z : (Dev nD × Bool) × ℕ => z.1) h) (Fin.ext (congrArg (fun z : (Dev nD × Bool) × ℕ => z.2) h))⟩
theorem writes_eq : slotKeys ×ˢ Finset.range 16 = Finset.univ.map writeEmb := by
  ext ⟨y, i⟩
  rw [Finset.mem_product, Finset.mem_map, Finset.mem_range]
  constructor
  · rintro ⟨-, h⟩; exact ⟨(y, ⟨i, h⟩), Finset.mem_univ _, rfl⟩
  · rintro ⟨x, -, h⟩
    have h2 : x.2.val = i := congrArg (fun z : (Dev nD × Bool) × ℕ => z.2) h
    exact ⟨Finset.mem_univ _, by rw [← h2]; exact x.2.isLt⟩

theorem writes_around : (bigSep (slotKeys ×ˢ Finset.range 16) fun x => writeTok (ES (F := F)) x.1 (x.2 + 1))
    ⊢ bigSep Finset.univ fun c : Dev nD => bigSep Finset.univ fun h : Fin 32 => writeTok (ES (F := F)) (nxt c, !sl h) (h.val / 2 + 1) := by
  refine Entails.of_eq ?_
  rw [writes_eq, bigSep_map, bigSep_univ_prod, bigSep_univ_prod, deal_nxt]
  refine bigSep_congr fun c _ => ?_
  refine (show (bigSep Finset.univ fun b : Bool => bigSep Finset.univ fun i : Fin 16 => writeTok (ES (F := F)) (nxt c, b) (i.val + 1)) = _ from ?_)
  rw [← bigSep_univ_prod (fun x : Bool × Fin 16 => writeTok (ES (F := F)) (nxt c, x.1) (x.2.val + 1)), bigSep_univ_equiv hopEquiv]
  rfl

/-! ## The credit of what the neighbours owe -/

/-- A hop's credit. -/
def hopCred (c : Dev nD) (h : ℕ) : sProp 𝕄 :=
  iprop(cred (tl c .xc h) ∗ cred (tl c .ac h) ∗ cred (tl c (.xr (!sl h)) h) ∗ cred (tl c (.mr (!sl h)) h) ∗ cred (tl c (.ar (!sl h)) h))

theorem from_prv (c : Dev nD) (k : CK) (u : ℕ) : (Pipeline.launchCred (fun d => tl (nxt d) k u) c : sProp 𝕄) ⊢ cred (tl c k u) :=
  Pipeline.launchCred_tallyAt (csem k) nxt prv nxt_prv prv_nxt u (amtK k) c
theorem from_nxt (c : Dev nD) (k : CK) (u : ℕ) : (Pipeline.launchCred (fun d => tl (prv d) k u) c : sProp 𝕄) ⊢ cred (tl c k u) :=
  Pipeline.launchCred_tallyAt (csem k) prv nxt prv_nxt nxt_prv u (amtK k) c

theorem hop_creds (c : Dev nD) (h : ℕ) : (Pipeline.launchCred (fun d => O5 d h) c : sProp 𝕄) ⊢ hopCred c h := by
  unfold O5 O3 hopCred
  rw [Pipeline.launchCred_add, Pipeline.launchCred_add, Pipeline.launchCred_add, Pipeline.launchCred_add]
  iintro ⟨⟨⟨⟨H1, H2⟩, H3⟩, H4⟩, H5⟩
  isplitl [H5]; · iapply (from_nxt c .xc h); iexact H5
  isplitl [H4]; · iapply (from_nxt c .ac h); iexact H4
  isplitl [H3]; · iapply (from_prv c (.xr (!sl h)) h); iexact H3
  isplitl [H2]; · iapply (from_prv c (.mr (!sl h)) h); iexact H2
  iapply (from_prv c (.ar (!sl h)) h); iexact H1

theorem creds (c : Dev nD) : (Pipeline.launchCred O₀ c : sProp 𝕄)
    ⊢ iprop(cred (tallyAt (cell c .bar) 0 2) ∗ bigSep (Finset.Ico 0 32) (hopCred (F := F) c)) := by
  unfold O₀ OF
  rw [Pipeline.launchCred_add, Pipeline.launchCred_add, Pipeline.launchCred_sum (Finset.Ico 0 32) (fun j d => O5 d j)]
  iintro ⟨⟨H1, H2⟩, H3⟩
  ihave H2 := (from_prv (F := F) c .bar 0) $$ H2
  ihave H3 := (from_nxt (F := F) c .bar 0) $$ H3
  isplitl [H2 H3]
  · iapply ((cred_add (tl c .bar 0) (tl c .bar 0)).2.trans (Entails.of_eq (congrArg cred (tallyAt_add (cell c .bar) 0 1 1))))
    isplitl [H2] <;> iassumption
  · iapply (show (bigSep (Finset.Ico 0 32) fun h => Pipeline.launchCred (fun d => O5 d h) c : sProp 𝕄) ⊢ _ from bigSep_mono fun h _ => hop_creds (F := F) c h); iexact H1

end Cert.KernelIdeal.RingProof

end
-- ==== Proof.Ideal.Launch.lean ====
/-
The kernel's launch: the body's obligation on every device, the semaphores and tokens a device starts from, and the run of
the whole program from any memory.
-/
module

public import proofs.«01_k».proof.Proof.Ideal.Deal
public import proofs.«01_k».proof.Proof.Gen.KernelIdeal.Points
public import Idealize.ShloMosaic.Lib.Quiescent
public import Idealize.ShloMosaic.Lib.Pipeline.CollectiveSegs

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

open Idealize.ShloMosaic.Pipeline (Dat BodyObligation)

variable (ρ : Dev nD → PrngReg)

/-- The memory at launch: any contents, every semaphore counter zero, any generator registers. -/
def s₀ : MemSt nD τ sig (Elt F) := ⟨m, fun _ => 0, ρ⟩

/-- The kernel's semaphores but for the barrier. -/
abbrev osem : Fin 14 → SemLoc sig := ![csem .xc, csem .ac, csem (.xs false), csem (.xs true), csem (.xr false), csem (.xr true),
  csem (.ms false), csem (.ms true), csem (.mr false), csem (.mr true), csem (.as false), csem (.as true), csem (.ar false), csem (.ar true)]
theorem ownSemFacts : Pipeline.OwnSemFacts cfg0.spec osem := by decide

theorem sems0_iff (c : Dev nD) :
    iprop(Pipeline.ownSems0 (Ix := ℕ) (Name := ℕ) (U := UU) (Lvl := ℕ) (Val := Elt F) (τ := τ) osem c ∗ unscopedSems0 c) = (bigSep Finset.univ fun k : CK => semVal (cell c k) 0 : sProp 𝕄) := by
  have h1 : (unscopedSems0 c : sProp 𝕄) = semVal (cell c .bar) 0 := by
    unfold unscopedSems0; rw [bigSep_eq_bigSepL_of_eq [SemLoc.reg barS] (by decide) (by decide)]; rfl
  have h2 : (Pipeline.ownSems0 (Ix := ℕ) (Name := ℕ) (U := UU) (Lvl := ℕ) (Val := Elt F) (τ := τ) osem c : sProp 𝕄) = bigSepL [csem .xc, csem .ac, csem (.xs false), csem (.xs true), csem (.xr false), csem (.xr true),
      csem (.ms false), csem (.ms true), csem (.mr false), csem (.mr true), csem (.as false), csem (.as true), csem (.ar false), csem (.ar true)]
      (fun sm => semVal ((c : Thread nD τ), sm) 0) := by
    rw [Pipeline.ownSems0_eq_of_list c osem [0, 1, 2, 3, 4, 5, 6, 7, 8, 9, 10, 11, 12, 13] (by decide) (by decide)]; rfl
  rw [h1, h2, bigSep_CK]
  exact BI.Entails.antisymm (show _ ⊢ (_ : sProp 𝕄) from sep_comm.1) (show _ ⊢ (_ : sProp 𝕄) from sep_comm.1)

/-! ## What a device starts from -/

/-- The facts of the protocol at some names, without the levels. -/
def recs₀ (K : Names) : sProp 𝕄 :=
  iprop(bigSep Finset.univ (fun x : Dev nD × CK => cellInv ER (Rd m) (K.cell x) (cell x.1 x.2))
    ∗ bigSep Finset.univ (fun x : Dev nD × CK => reached ER (cell x.1 x.2) 0)
    ∗ bigSep Finset.univ (fun y : Dev nD × Bool => slotInv ES (K.slot y) y (slotA y.1 y.2)))
instance recs₀_persistent (K : Names) : BI.Persistent (recs₀ m K) := by unfold recs₀; infer_instance

/-- A device's own share: positions, reader counts, and the tokens of what it pays. -/
def linear (c : Dev nD) : sProp 𝕄 :=
  iprop((bigSep Finset.univ fun k : CK => pos c k 0) ∗ (bigSep Finset.univ fun b : Bool => readerAt ES (c, b) 0) ∗ payToks c
    ∗ bigSep Finset.univ fun h : Fin 32 => writeTok (ES (F := F)) (nxt c, !sl h) (h.val / 2 + 1))
def G' (c : Dev nD) : sProp 𝕄 := iprop(∃ K, recs₀ m K ∗ linear c)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (cell c k)))
          ∗ (bigSep Finset.univ fun k => pos c k 0) ∗ toks c ∗ slotFund c) := by
  unfold G
  iintro ⟨Hos, Hus, Hst, Hat, Htok, Hs⟩
  ihave Hv := (Entails.of_eq (sems0_iff (F := F) c)) $$ [Hos Hus]
  · isplitl [Hos] <;> iassumption
  imod (show iprop((bigSep Finset.univ fun k : CK => semVal (cell c k) 0) ∗ bigSep Finset.univ fun k : CK => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hs

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (cell c k)))
          ∗ (bigSep Finset.univ fun k => pos c k 0) ∗ toks c ∗ slotFund c) : sProp 𝕄)
      ⊢ |={Set.univ}=> bigSep Finset.univ (G' m) := by
  rw [bigSep_sep', bigSep_sep', bigSep_sep', ← bigSep_univ_prod (fun x : Dev nD × CK => iprop(∃ κ : ℕ, cellInv ER (Rd m) κ (cell x.1 x.2)))]
  iintro ⟨HI, Hpos, Htok, Hs⟩
  ihave HK := (BI.bigSep_exists_pi Finset.univ (fun (x : Dev nD × CK) (κ : ℕ) => (cellInv ER (Rd m) κ (cell x.1 x.2) : sProp 𝕄))) $$ HI
  icases HK with ⟨%Kc, #HI⟩
  ihave Hs := (slotFund_elim (F := F)) $$ Hs
  imod (Release.slots_init (E := ES (F := F)) (Es := Set.univ) slotKeys 16 (fun y : Dev nD × Bool => slotA (F := F) y.1 y.2)) $$ Hs with ⟨%Ks, -, #HS, Hrd, Hwr⟩
  ihave Htk := (toks_around (F := F)) $$ Htok
  ihave Hwr := (writes_around (F := F)) $$ Hwr
  ihave #Hre := (show (bigSep Finset.univ fun c : Dev nD => bigSep Finset.univ fun k : CK => pos (F := F) c k 0)
      ⊢ bigSep Finset.univ (fun x : Dev nD × CK => (reached ER (cell x.1 x.2) 0 : sProp 𝕄)) from by
    rw [bigSep_univ_prod]
    exact bigSep_mono fun c _ => bigSep_mono fun k _ => show pos (F := F) c k 0 ⊢ reached ER (cell c k) 0 from sep_elim_right) $$ Hpos
  imodintro
  iapply (with_persistent (R := recs₀ m ⟨Kc, Ks⟩) (Φ := linear (F := F)) fun c _ => show _ ⊢ G' m c by
    unfold G'; iintro H; iexists (⟨Kc, Ks⟩ : Names); iexact H)
  isplitr
  · unfold recs₀
    isplitr; · iexact HI
    isplitr; · iexact Hre
    iexact HS
  · unfold linear
    simp only [bigSep_sep']
    isplitl [Hpos]; · iexact Hpos
    isplitl [Hrd]
    · iapply (Entails.of_eq (bigSep_univ_prod (fun y : Dev nD × Bool => readerAt (ES (F := F)) y 0))); iexact Hrd
    isplitl [Htk]; · iexact Htk
    iexact Hwr

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans ((BI.fupd_mono (regroup m)).trans fupd_trans)

/-! ## The hops' resources -/

theorem fin_range (n : ℕ) (Φ : ℕ → sProp 𝕄) : (bigSep Finset.univ fun i : Fin n => Φ i) = bigSep (Finset.range n) Φ := by
  rw [← Nat.Iio_eq_range, ← Fin.map_valEmbedding_univ, bigSep_map]; rfl

theorem later_intro (c : Dev nD) :
    iprop(bigSep (Finset.Ico 0 32) (hopCred (F := F) c)
      ∗ (bigSep Finset.univ fun h : Fin 32 =>
        iprop(tk (F := F) (prv c) (.xc, h, 0) ∗ tk (prv c) (.ac, 0, h) ∗ tk c (.xs (sl h), h / 2, 0) ∗ tk c (.ms (sl h), h / 2, 0) ∗ tk c (.as (sl h), h / 2, 0)
      ∗ tk (nxt c) (.xr (!sl h), h / 2, 0) ∗ tk (nxt c) (.mr (!sl h), h / 2, 0) ∗ tk (nxt c) (.ar (!sl h), h / 2, 0)))
      ∗ bigSep Finset.univ fun h : Fin 32 => writeTok (ES (F := F)) (nxt c, !sl h) (h.val / 2 + 1))
      ⊢ later c 0 := by
  rw [fin_range 32 (fun h => iprop(tk (F := F) (prv c) (.xc, h, 0) ∗ tk (prv c) (.ac, 0, h) ∗ tk c (.xs (sl h), h / 2, 0) ∗ tk c (.ms (sl h), h / 2, 0) ∗ tk c (.as (sl h), h / 2, 0)
      ∗ tk (nxt c) (.xr (!sl h), h / 2, 0) ∗ tk (nxt c) (.mr (!sl h), h / 2, 0) ∗ tk (nxt c) (.ar (!sl h), h / 2, 0))),
    fin_range 32 (fun h => writeTok (ES (F := F)) (nxt c, !sl h) (h / 2 + 1)), Finset.range_eq_Ico, ← bigSep_sep', ← bigSep_sep']
  unfold later
  refine bigSep_mono fun h _ => show _ ⊢ (_ : sProp 𝕄) from ?_
  unfold hopCred hopRes hopSig
  iintro ⟨Hc, ⟨H1, H2, H3, H4, H5, H6, H7, H8⟩, Hw⟩
  isplitl [Hc H3 H4 H5 H6 H7 H8 Hw]
  · isplitl [Hc]; · iexact Hc
    isplitl [H3 H4 H5]
    · isplitl [H3]; · iexact H3
      isplitl [H4]; · iexact H4
      iexact H5
    isplitl [H6 H7 H8]
    · isplitl [H6]; · iexact H6
      isplitl [H7]; · iexact H7
      iexact H8
    iexact Hw
  · isplitl [H1]; · iexact H1
    iexact H2

theorem ghost_intro (c : Dev nD) :
    iprop(linear c ∗ cred (tallyAt (cell c .bar) 0 2) ∗ bigSep (Finset.Ico 0 32) (hopCred (F := F) c)) ⊢ Ghost c := by
  unfold linear payToks Ghost
  rw [show (bigSep Finset.univ fun b : Bool => readerAt (ES (F := F)) (c, b) 0) = iprop(readerAt ES (c, false) 0 ∗ readerAt ES (c, true) 0) from
    bigSep_univ_eq_bigSepL [false, true] (by decide) (by decide) _]
  iintro ⟨⟨Hpos, Hrd, ⟨⟨Hb0, Hb1⟩, Ht⟩, Hw⟩, Hb, Hc⟩
  isplitl [Hb0 Hb1 Hb]
  · isplitl [Hb0]; · iexact Hb0
    isplitl [Hb1]; · iexact Hb1
    iexact Hb
  isplitl [Hpos]; · iexact Hpos
  isplitl [Hrd]; · iexact Hrd
  iapply (later_intro (F := F) c)
  isplitl [Hc]; · iexact Hc
  isplitl [Ht]; · iexact Ht
  iexact Hw

/-! ## The body's obligation -/

def start (c : Dev nD) : sProp 𝕄 := iprop(∃ K, recs m K ∗ Ghost c)
def Φ₀ (c : Dev nD) : sProp 𝕄 := iprop(start m c ∗ scr c)
def Φ₁ (c : Dev nD) : sProp 𝕄 := iprop((bigSep Finset.univ fun k : CK => semVal (cell c k) 0) ∗ scr c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xIn m c
    | ⟨1, _⟩ => rwIn m c
    | ⟨2, _⟩ => ixIn m c
    | ⟨3, _⟩ => ewIn m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))
theorem stg_st (c : Dev nD) (b : Ref sig .tc) {X Y : b.ty.Contents (Elt F)} (h : X = Y) : stg c b X ⊢ stP c b Y := by
  subst h; unfold stg stP; iintro ⟨%f, %h, H⟩; subst h; iexact H
theorem st_stg (c : Dev nD) (b : Ref sig .tc) (X : b.ty.Contents (Elt F)) : stP c b X ⊢ stg c b X := by
  unfold stg stP; iintro H; iexists X; isplitr; · (ipureintro; rfl)
  iexact H

abbrev t₀ : Fin cfg0.N := t0_0

def bodyPre (c : Dev nD) : sProp 𝕄 :=
  iprop(Φ₀ m c ∗ (dats m ρ 0 c).owesAt (0 : ℕ) t₀.castSucc
    ∗ (∃ d, stg c cc0_stg0_0 ((dats m ρ 0 c).before (0 : Fin 5) t₀ d))
    ∗ (∃ d, stg c cc0_stg1_0 ((dats m ρ 0 c).before (1 : Fin 5) t₀ d))
    ∗ (∃ d, stg c cc0_stg2_0 ((dats m ρ 0 c).before (2 : Fin 5) t₀ d))
    ∗ (∃ d, stg c cc0_stg3_0 ((dats m ρ 0 c).before (3 : Fin 5) t₀ d))
    ∗ (∃ d, stg c cc0_stg4_0 ((dats m ρ 0 c).before (4 : Fin 5) t₀ d)))
def bodyPost (c : Dev nD) : sProp 𝕄 :=
  iprop(Φ₁ c ∗ (dats m ρ 0 c).owesAt (0 : ℕ) t₀.succ
    ∗ stg c cc0_stg0_0 (xIn m c) ∗ stg c cc0_stg1_0 (rwIn m c) ∗ stg c cc0_stg2_0 (ixIn m c) ∗ stg c cc0_stg3_0 (ewIn m c)
    ∗ stg c cc0_stg4_0 (outAt m c))

theorem before0 (c : Dev nD) (d) : (dats m ρ 0 c).before (0 : Fin 5) t₀ d = xIn m c := by
  unfold Dat.before; rw [if_pos (fetch0_0 t₀)]; rfl
theorem before1 (c : Dev nD) (d) : (dats m ρ 0 c).before (1 : Fin 5) t₀ d = rwIn m c := by
  unfold Dat.before; rw [if_pos (fetch0_1 t₀)]; rfl
theorem before2 (c : Dev nD) (d) : (dats m ρ 0 c).before (2 : Fin 5) t₀ d = ixIn m c := by
  unfold Dat.before; rw [if_pos (fetch0_2 t₀)]; rfl
theorem before3 (c : Dev nD) (d) : (dats m ρ 0 c).before (3 : Fin 5) t₀ d = ewIn m c := by
  unfold Dat.before; rw [if_pos (fetch0_3 t₀)]; rfl

theorem owe_start (c : Dev nD) : (dats m ρ 0 c).owesAt (0 : ℕ) t₀.castSucc ⊢ Owe c (O₀ c) := by
  unfold Dat.owesAt Pipeline.owesWithin Owe
  iintro ⟨%W, -, HO⟩
  iexists W; iexact HO
theorem owe_end (c : Dev nD) : Owe c 0 ⊢ (dats m ρ 0 c).owesAt (0 : ℕ) t₀.succ := by
  unfold Dat.owesAt Pipeline.owesWithin Owe
  iintro ⟨%W, HO⟩
  iexists W; isplitr; · (ipureintro; exact fun _ _ => Or.inl trivial)
  iexact HO

theorem pre_enter (c : Dev nD) : bodyPre m ρ c
    ⊢ iprop(∃ K, recs m K ∗ Ghost c ∗ Owe c (O₀ c) ∗ scr c ∗ ins m c ∗ ∃ V, stP c cc0_stg4_0 V) := by
  unfold bodyPre Φ₀ start ins
  iintro ⟨⟨⟨%K, Hr, Hg⟩, Hs⟩, Ho, ⟨%d0, H0⟩, ⟨%d1, H1⟩, ⟨%d2, H2⟩, ⟨%d3, H3⟩, ⟨%d4, H4⟩⟩
  iexists K
  isplitl [Hr]; · iexact Hr
  isplitl [Hg]; · iexact Hg
  isplitl [Ho]; · iapply (owe_start m ρ c); iexact Ho
  isplitl [Hs]; · iexact Hs
  isplitl [H0 H1 H2 H3]
  · isplitl [H0]; · iapply (stg_st c cc0_stg0_0 (before0 m ρ c _)); iexact H0
    isplitl [H1]; · iapply (stg_st c cc0_stg1_0 (before1 m ρ c _)); iexact H1
    isplitl [H2]; · iapply (stg_st c cc0_stg2_0 (before2 m ρ c _)); iexact H2
    iapply (stg_st c cc0_stg3_0 (before3 m ρ c _)); iexact H3
  · iexists _; iapply (stg_st c cc0_stg4_0 rfl); iexact H4

theorem post_leave (c : Dev nD) : Done m c ⊢ bodyPost m ρ c := by
  unfold Done bodyPost Φ₁ ins
  iintro ⟨Ho, Hv, Hs, ⟨H0, H1, H2, H3⟩, H4⟩
  isplitl [Hv Hs]
  · isplitl [Hv] <;> iassumption
  isplitl [Ho]; · iapply (owe_end m ρ c); iexact Ho
  isplitl [H0]; · iapply (st_stg c cc0_stg0_0); iexact H0
  isplitl [H1]; · iapply (st_stg c cc0_stg1_0); iexact H1
  isplitl [H2]; · iapply (st_stg c cc0_stg2_0); iexact H2
  isplitl [H3]; · iapply (st_stg c cc0_stg3_0); iexact H3
  iapply (st_stg c cc0_stg4_0); iexact H4

theorem body_obligation (c : Dev nD) : BodyObligation (dats (F := F) m ρ 0 c) (defs₀ (F := F)) 𝒱₀ (0 : ℕ) Set.univ := fun t => by
  rw [fin_N0 t]
  rw [show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0,
    show ∀ Φ : Fin cfg0.W → sProp 𝕄, bigSep Finset.univ Φ = iprop(Φ (0 : Fin 5) ∗ Φ (1 : Fin 5) ∗ Φ (2 : Fin 5) ∗ Φ (3 : Fin 5) ∗ Φ (4 : Fin 5)) from bigSep_W0]
  simp only [owns_whole_eq]
  show bodyPre m ρ c ⊢ WP c (cc0_body (F := F) xM (Memref.isWhole_whole _) rwM (Memref.isWhole_whole _) ixM (Memref.isWhole_whole _) ewM (Memref.isWhole_whole _) oM (Memref.isWhole_whole _) pkM (Memref.isWhole_whole _) mtM (Memref.isWhole_whole _) wbM (Memref.isWhole_whole _) ctM (Memref.isWhole_whole _) cc0_scratch4 cc0_scratch5 cc0_scratch6 cc0_scratch7 cc0_scratch8 cc0_scratch9 cc0_scratch10 cc0_scratch11) (fun _ => bodyPost m ρ c)
  refine (pre_enter m ρ c).trans (BIBase.Entails.trans ?_ (wp_mono _ _ _ fun _ => post_leave m ρ c))
  iintro ⟨%K, H⟩
  iapply (body m K c); iexact H

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' recs₀
  iintro ⟨-, Hlev, Hcr, -, ⟨%K, Hr, Hl⟩⟩
  icases Hr with ⟨H1, H2, H3⟩
  ihave Hc := (creds (F := F) c) $$ Hcr
  imodintro
  isplitl
  · iexists K
    isplitl [Hlev H1 H2 H3]
    · unfold recs
      isplitl [H1]; · iexact H1
      isplitl [H2]; · iexact H2
      isplitl [H3]; · iexact H3
      iexact Hlev
    · iapply (ghost_intro (F := F) c)
      isplitl [Hl]; · iexact Hl
      iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 (Ix := ℕ) (Name := ℕ) (U := UU) (Lvl := ℕ) (Val := Elt F) (τ := τ) osem c ∗ Pipeline.scopedRest cfg0.spec c) := by
  rw [show (dats m ρ 0 c).Φ (Fin.last cfg0.N) = Φ₁ c from rfl, scopedRest0_eq]
  unfold Φ₁ scr
  rw [← sems0_iff]
  iintro ⟨⟨Ho, Hu⟩, Hr⟩
  isplitl [Hu]; · iexact Hu
  isplitl [Ho]; · iexact Ho
  iexact Hr

theorem lv_other (c : Dev nD) (sm : SemLoc sig) (u : ℕ) (h : ∀ k, csem k ≠ sm) : lv ((c : Thread nD τ), sm) u ≤ 0 := by
  unfold lv kind
  rw [dif_neg (fun ⟨k, hk⟩ => h k hk)]
  exact Nat.le_refl 0

theorem waits (c : Dev nD) : (levAts L lv : sProp 𝕄) ⊢ Pipeline.cellsWaits cfgs (dats m ρ) (0 : ℕ) 0 c :=
  Pipeline.cellsWaits_intro cfgs (dats m ρ) (0 : ℕ) 0 c fun w s t =>
    mayWait c _ 0 0 _ (by omega) (lv_other c _ 0 (by fin_cases w <;> fin_cases s <;> decide)) (by
      rcases t with ⟨_ | _, ht⟩
      · exact above_O₀ c
      · exact Above.zero 0)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution on the 32 devices terminates, with each device's result at the
    computed contents, its arguments as they were and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.RingProof

end
-- ==== Proof.Ideal.Run.lean ====
/-
What the run leaves in memory: the arguments as they were, and in the result what the last hop brought.
-/
module

public import proofs.«01_k».proof.Proof.Ideal.Launch

@[expose] public section

set_option maxRecDepth 20000

noncomputable section

namespace Cert.KernelIdeal.RingProof

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (K : Names)

variable (ρ : Dev nD → PrngReg)

/-- The memory an argument's window lies in is as it was. -/
theorem finalA_in (c : Dev nD) (w : Fin cfg0.W) (hw : (cfg0.win w).isOut = false) : finalA m ρ c w = m ((cfg0.win w).arr.view.loc (c : Thread nD τ)) :=
  (dats (F := F) m ρ 0 c).arrAt_in w hw _

/-- The result's one block read back is what the body left. -/
theorem finalA_out (c : Dev nD) : (win0_4.blk (0 : Fin 1)).view.read (Elt F) (finalA m ρ c (4 : Fin 5)) = outAt m c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _
theorem finalA_out_eq (c : Dev nD) : finalA m ρ c (4 : Fin 5) = outAt m c :=
  (Memref.read_access_unit_zero (Elt F) main_v1 (funext fun a => by fin_cases a <;> decide) (fun a => by fin_cases a <;> decide) _).symm.trans
    (finalA_out m ρ c)

/-- The windows of the arguments read the whole arguments. -/
theorem xIn_eq (c : Dev nD) : xIn m c = m ((c : Thread nD τ).loc main_arg0) :=
  Memref.read_access_unit_zero (Elt F) main_arg0 (funext fun a => by fin_cases a <;> decide) (fun a => by fin_cases a <;> decide) _
theorem rwIn_eq (c : Dev nD) : rwIn m c = m ((c : Thread nD τ).loc main_arg1) :=
  Memref.read_access_unit_zero (Elt F) main_arg1 (funext fun a => by fin_cases a <;> decide) (fun a => by fin_cases a <;> decide) _
theorem ixIn_eq (c : Dev nD) : ixIn m c = m ((c : Thread nD τ).loc main_arg2) :=
  Memref.read_access_unit_zero (Elt F) main_arg2 (funext fun a => by fin_cases a <;> decide) (fun a => by fin_cases a <;> decide) _
theorem ewIn_eq (c : Dev nD) : ewIn m c = m ((c : Thread nD τ).loc main_arg3) :=
  Memref.read_access_unit_zero (Elt F) main_arg3 (funext fun a => by fin_cases a <;> decide) (fun a => by fin_cases a <;> decide) _

/-- Every run ends with the arguments as they were and every counter at zero. -/
theorem run_frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c (0 : Fin 5)).trans (finalA_in m ρ c _ rfl), (h.1 c (1 : Fin 5)).trans (finalA_in m ρ c _ rfl),
    (h.1 c (2 : Fin 5)).trans (finalA_in m ρ c _ rfl), (h.1 c (3 : Fin 5)).trans (finalA_in m ρ c _ rfl)⟩, h.2⟩) (run_main m ρ)

/-- Every run ends with each device's result at the value the hops computed. -/
theorem run_value : θ_run defs (onTc (τ := τ) (main (F := F))) ⟨m, fun _ => 0, ρ⟩ (fun r => ∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c => ⟨(h.1 c (4 : Fin 5)).trans (finalA_out_eq m ρ c), (h.1 c (0 : Fin 5)).trans (finalA_in m ρ c _ rfl),
    (h.1 c (1 : Fin 5)).trans (finalA_in m ρ c _ rfl), (h.1 c (2 : Fin 5)).trans (finalA_in m ρ c _ rfl), (h.1 c (3 : Fin 5)).trans (finalA_in m ρ c _ rfl)⟩) (run_main m ρ)

end Cert.KernelIdeal.RingProof

end
-- ==== Proof.Ideal.Mix.lean ====
/-
The mathematics of one output element, over the extended reals: the softmax row of a token, the two
normalised gates, and the sum over all experts in which every expert but the two named has weight zero.
-/
module

public import proofs.«01_k».proof.Proof.Ideal.Ring
public import Idealize.ShloMosaic.PureOps.Ideal.Laws

@[expose] public section

noncomputable section

namespace Cert.KernelIdeal.MixProof

open Idealize.ShloMosaic
open scoped BigOperators

/-- The greatest of a row of scores. -/
def top (s : Fin 128 → EReal) : EReal := (Finset.univ : Finset (Fin 128)).fold max (Ideal.ofBits .f32 0xFF800000#32) s

/-- The softmax of a row of scores at expert `e`. -/
def prob (s : Fin 128 → EReal) (e : Fin 128) : EReal := Ideal.div (Ideal.exp (s e - top s)) (∑ k : Fin 128, Ideal.exp (s k - top s))

/-- The scores of a token with features `x`. -/
def score (x : Fin 512 → EReal) (R : Fin 512 → Fin 128 → EReal) (e : Fin 128) : EReal := ∑ k : Fin 512, x k * R k e

/-- The output element: the two experts' products, weighted by the gates of `s`. -/
def mix (s y : Fin 128 → EReal) (e0 e1 : Fin 128) : EReal :=
  Ideal.div (prob s e0) (prob s e0 + prob s e1) * y e0 + Ideal.div (prob s e1) (prob s e0 + prob s e1) * y e1

/-- One where two numbers agree, zero where they do not. -/
def hit (a b : EReal) : EReal := if a = b then 1 else 0

theorem hit_self (a : EReal) : hit a a = 1 := if_pos rfl
theorem hit_of_ne {a b : EReal} (h : a ≠ b) : hit a b = 0 := if_neg h

/-- A row against the row that is one at `e` and zero elsewhere. -/
theorem sum_pick (p u : Fin 128 → EReal) (e : Fin 128) (h1 : u e = 1) (h0 : ∀ k, k ≠ e → u k = 0) : ∑ k, p k * u k = p e := by
  rw [Finset.sum_eq_single e (fun k _ hk => by rw [h0 k hk, mul_zero]) (fun h => absurd (Finset.mem_univ _) h), h1, mul_one]

/-- A number doubled distributes over a product, whatever its sign. -/
theorem twice_mul (a y : EReal) : (a + a) * y = a * y + a * y := by
  rcases le_total 0 a with h | h
  · exact EReal.right_distrib_of_nonneg h h
  · have h' : 0 ≤ -a := EReal.neg_nonneg.2 h
    have e := EReal.right_distrib_of_nonneg (c := -y) h' h'
    have hn : -a + -a = -(a + a) := by
      rw [EReal.neg_add (Or.inr ?_) (Or.inl ?_), sub_eq_add_neg]
      · intro hb; rw [hb] at h; exact absurd h (by simp)
      · intro hb; rw [hb] at h; exact absurd h (by simp)
    rw [hn, neg_mul_neg, neg_mul_neg] at e
    exact e

/-- The sum over the experts of the weights times the products is the two named terms. -/
theorem sum_experts (a b : EReal) (u v y : Fin 128 → EReal) (e0 e1 : Fin 128) (hab : e0 = e1 → a = b)
    (hu1 : u e0 = 1) (hu0 : ∀ k, k ≠ e0 → u k = 0) (hv1 : v e1 = 1) (hv0 : ∀ k, k ≠ e1 → v k = 0) :
    ∑ k, (a * u k + b * v k) * y k = a * y e0 + b * y e1 := by
  by_cases h : e0 = e1
  · subst h
    obtain rfl := hab rfl
    rw [Finset.sum_eq_single e0 (fun k _ hk => by rw [hu0 k hk, hv0 k hk]; simp) (fun h => absurd (Finset.mem_univ _) h), hu1, hv1,
      mul_one, twice_mul]
  · rw [← Finset.sum_subset (Finset.subset_univ {e0, e1}) (fun k _ hk => by
      simp only [Finset.mem_insert, Finset.mem_singleton, not_or] at hk
      rw [hu0 k hk.1, hv0 k hk.2]; simp), Finset.sum_pair h, hu1, hv1, hu0 e1 (Ne.symm h), hv0 e0 h]
    simp

/-- Expert `j` of the four that device `d` holds. -/
def exp4 (d : Fin 32) (j : Fin 4) : Fin 128 := ⟨4 * d.val + j.val, by omega⟩

/-- The experts, device by device. -/
theorem sum_exp4 (f : Fin 128 → EReal) : ∑ d : Fin 32, ∑ j : Fin 4, f (exp4 d j) = ∑ e : Fin 128, f e := by
  rw [← Fintype.sum_prod_type' (fun d j => f (exp4 d j))]
  refine Fintype.sum_bijective (fun p : Fin 32 × Fin 4 => exp4 p.1 p.2) ⟨?_, ?_⟩ _ _ (fun _ => rfl)
  · rintro ⟨d, j⟩ ⟨d', j'⟩ h
    have := congrArg Fin.val h
    simp only [exp4] at this
    exact Prod.ext (Fin.ext (by show d.val = d'.val; omega)) (Fin.ext (by show j.val = j'.val; omega))
  · intro e
    exact ⟨(⟨e.val / 4, by omega⟩, ⟨e.val % 4, by omega⟩), Fin.ext (by show 4 * (e.val / 4) + e.val % 4 = e.val; omega)⟩

open Cert.KernelIdeal.RingProof in
theorem back_val (h : ℕ) : ∀ c : Fin 32, (back c h).val = (c.val + 31 * h) % 32 := by
  induction h with
  | zero => intro c; show c.val = _; omega
  | succ n ih => intro c; rw [back_succ, ih]; show ((c.val + 31) % 32 + 31 * n) % 32 = _; omega

open Cert.KernelIdeal.RingProof in
/-- Walking back around the ring passes every device once. -/
theorem sum_back (c : Fin 32) (f : Fin 32 → EReal) : ∑ h ∈ Finset.range 32, f (back c h) = ∑ d, f d := by
  rw [Finset.sum_range]
  refine Fintype.sum_bijective (fun h : Fin 32 => back c h.val) ?_ _ _ (fun _ => rfl)
  rw [Fintype.bijective_iff_injective_and_card]
  refine ⟨fun h h' e => Fin.ext ?_, rfl⟩
  have := congrArg Fin.val e
  simp only [back_val] at this
  omega

end Cert.KernelIdeal.MixProof
-- ==== Proof.Ideal.Value.lean ====
/-
The kernel's values at an index, over the extended reals.
-/
module

public import proofs.«01_k».proof.Proof.Ideal.Mix
public import Idealize.ShloMosaic.Lib.Pointwise

@[expose] public section

set_option maxRecDepth 20000

noncomputable section

namespace Cert.KernelIdeal.MixProof

open Cert.KernelIdeal Cert.KernelIdeal.Gen
open Idealize.ShloMosaic Idealize.ShloMosaic.TcCoe
open scoped BigOperators

theorem pay4_apply (a b i : FVec Ideal S1024x1 .f32) (v : Vec Ideal S1024x1 .i32) (r : Fin 1024) : k0_pay4 (k0_pay41 a b i v) (ix2 r 0) = a (ix2 r 0) := by
  pointwise [k0_pay4, k0_pay3, k0_pay41, k0_pay40]

theorem pay5_apply (a b i : FVec Ideal S1024x1 .f32) (v : Vec Ideal S1024x1 .i32) (r : Fin 1024) : k0_pay5 (k0_pay41 a b i v) (ix2 r 0) = b (ix2 r 0) := by
  pointwise [k0_pay5, k0_pay3, k0_pay41, k0_pay40]

theorem pay6_apply (a b i : FVec Ideal S1024x1 .f32) (v : Vec Ideal S1024x1 .i32) (r : Fin 1024) : k0_pay6 (k0_pay41 a b i v) (ix2 r 0) = i (ix2 r 0) := by
  pointwise [k0_pay6, k0_pay3, k0_pay41, k0_pay40]

theorem pay7_apply (a b i : FVec Ideal S1024x1 .f32) (v : Vec Ideal S1024x1 .i32) (r : Fin 1024) :
    k0_pay7 (k0_pay41 a b i v) (ix2 r 0) = (((v (ix2 r 0)).toInt : ℝ) : EReal) := by
  pointwise [k0_pay7, k0_pay3, k0_pay41, k0_pay40]
  rfl

/-- A comparison of numbers, widened and converted, is one or zero. -/
theorem sitofp_decide (a b : EReal) : (FloatOps.sitofp .f32 (BitVec.setWidth 32 (BitVec.ofBool (decide (a = b)))) : Ideal .f32) = hit a b := by
  by_cases h : a = b
  · rw [decide_eq_true h, hit, if_pos h]; exact (by norm_num : (((1 : ℤ) : ℝ) : EReal) = 1)
  · rw [decide_eq_false h, hit, if_neg h]; exact (by norm_num : (((0 : ℤ) : ℝ) : EReal) = 0)

/-- The number of expert `j` of the device at place `v2`. -/
def num (v2 j : BitVec 32) : EReal := (((Scalar.addi (Scalar.muli v2 4#32) j).toInt : ℝ) : EReal)

/-- A token's product with one expert, at one column. -/
def prod (x : Fin 512 → EReal) (w : Vec Ideal S1x512x1024 .bf16) (l : Fin 1024) : EReal := ∑ k : Fin 512, x k * w (ix3 0 k l)

/-- What a device at place `v2` with experts `w0 … w3` adds to one output element of a token. -/
def share (v2 : BitVec 32) (a b i j : EReal) (d0 d1 d2 d3 : EReal) : EReal :=
  (a * hit i (num v2 0#32) + b * hit j (num v2 0#32)) * d0 + (a * hit i (num v2 1#32) + b * hit j (num v2 1#32)) * d1
    + (a * hit i (num v2 2#32) + b * hit j (num v2 2#32)) * d2 + (a * hit i (num v2 3#32) + b * hit j (num v2 3#32)) * d3

open RingProof in
theorem ctrOf_apply (v2 : BitVec 32) (x : Vec Ideal S1x1024x512 .bf16) (mt : Vec Ideal S1x8x1024 .bf16) (w0 w1 w2 w3 : Vec Ideal S1x512x1024 .bf16)
    (r l : Fin 1024) :
    ctrOf v2 x mt w0 w1 w2 w3 (ix2 r l) = share v2 (k0_pay4 mt (ix2 r 0)) (k0_pay5 mt (ix2 r 0)) (k0_pay6 mt (ix2 r 0)) (k0_pay7 mt (ix2 r 0))
      (prod (fun k => x (ix3 0 r k)) w0 l) (prod (fun k => x (ix3 0 r k)) w1 l) (prod (fun k => x (ix3 0 r k)) w2 l) (prod (fun k => x (ix3 0 r k)) w3 l) := by
  pointwise [ctrOf, k0_pay25, k0_pay10, k0_pay8, k0_pay9, k0_pay11, k0_pay12, k0_pay2]
  simp only [sitofp_decide]
  rfl

/-- A device's own share, from the columns it holds before they travel. -/
theorem own_apply (v2 : BitVec 32) (x : FVec Ideal S1024x512 .f32) (a b i : FVec Ideal S1024x1 .f32) (v : Vec Ideal S1024x1 .i32)
    (w0 w1 w2 w3 : Vec Ideal S1x512x1024 .bf16) (r l : Fin 1024) :
    k0_pay54 (k0_pay42 x) (k0_pay46 a b i v) (k0_pay48 a b i v)
      (k0_pay50 v2 (k0_pay42 x) (k0_pay45 a b i v) (k0_pay46 a b i v) (k0_pay47 a b i v) (k0_pay48 a b i v) (k0_pay49 v2 x a b i v w0)
        (Scalar.muli v2 4#32) 1#32 w1 w2) (k0_pay52 v2 (k0_pay45 a b i v) (k0_pay47 a b i v)) (k0_pay53 v2) w3 (ix3 0 r l)
      = share v2 (a (ix2 r 0)) (b (ix2 r 0)) (i (ix2 r 0)) (((v (ix2 r 0)).toInt : ℝ) : EReal)
        (prod (fun k => x (ix2 r k)) w0 l) (prod (fun k => x (ix2 r k)) w1 l) (prod (fun k => x (ix2 r k)) w2 l) (prod (fun k => x (ix2 r k)) w3 l) := by
  pointwise [k0_pay54, k0_pay53, k0_pay52, k0_pay51, k0_pay50, k0_pay49, k0_pay48, k0_pay47, k0_pay46, k0_pay45, k0_pay44, k0_pay42, k0_pay40]
  rw [show (FloatOps.sitofp FTy.f32 (v (ix2 r 0)) : Ideal .f32) = (((v (ix2 r 0)).toInt : ℝ) : EReal) from rfl]
  simp only [sitofp_decide]
  rfl

/-! ## The gates -/

theorem pay33_apply (x : Vec Ideal S1024x512 .f32) (w : Vec Ideal S512x128 .f32) (r : Fin 1024) (e : Fin 128) :
    k0_pay33 x w (ix2 r e) = prob (score (fun k => x (ix2 r k)) fun k e => w (ix2 k e)) e := by
  pointwise [k0_pay33, k0_pay32]
  rfl

/-- The row of the indicator of a table word. -/
theorem pick_word (p : Fin 128 → EReal) (b : BitVec 32) (e : Fin 128) (h : b = BitVec.ofNat 32 e.val) :
    ∑ k : Fin 128, p k * (FloatOps.sitofp .f32 (BitVec.setWidth 32 (IntOp.cmpi CmpIPredicate.eq (BitVec.ofNat 32 k.val) b)) : Ideal .f32) = p e := by
  have key : ∀ k : Fin 128, (FloatOps.sitofp .f32 (BitVec.setWidth 32 (IntOp.cmpi CmpIPredicate.eq (BitVec.ofNat 32 k.val) b)) : Ideal .f32)
      = if k = e then 1 else 0 := by
    intro k
    have hb : IntOp.cmpi CmpIPredicate.eq (BitVec.ofNat 32 k.val) b = BitVec.ofBool (decide (k = e)) := by
      show BitVec.ofBool (decide (BitVec.ofNat 32 k.val = b)) = _
      congr 1
      rw [h]
      refine decide_eq_decide.2 ⟨fun hk => Fin.ext ?_, fun hk => by rw [hk]⟩
      have := congrArg BitVec.toNat hk
      simp only [BitVec.toNat_ofNat] at this
      omega
    rw [hb]
    by_cases hk : k = e
    · rw [decide_eq_true hk, if_pos hk]; exact (by norm_num : (((1 : ℤ) : ℝ) : EReal) = 1)
    · rw [decide_eq_false hk, if_neg hk]; exact (by norm_num : (((0 : ℤ) : ℝ) : EReal) = 0)
  exact sum_pick p _ e (by rw [key, if_pos rfl]) (fun k hk => by rw [key, if_neg hk])

theorem pay34_apply (x : Vec Ideal S1024x512 .f32) (w : Vec Ideal S512x128 .f32) (v : Vec Ideal S1024x1 .i32) (r : Fin 1024) (e : Fin 128)
    (h : v (ix2 r 0) = BitVec.ofNat 32 e.val) :
    k0_pay34 x w v (ix2 r 0) = prob (score (fun k => x (ix2 r k)) fun k e => w (ix2 k e)) e := by
  pointwise [k0_pay34]
  rw [pick_word _ _ e h, pay33_apply]

theorem pay35_apply (x : Vec Ideal S1024x512 .f32) (w : Vec Ideal S512x128 .f32) (v : Vec Ideal S1024x1 .i32) (r : Fin 1024) (e : Fin 128)
    (h : v (ix2 r 0) = BitVec.ofNat 32 e.val) :
    k0_pay35 x w v (ix2 r 0) = prob (score (fun k => x (ix2 r k)) fun k e => w (ix2 k e)) e := by
  pointwise [k0_pay35]
  rw [pick_word _ _ e h, pay33_apply]

theorem pay37_apply (x : Vec Ideal S1024x512 .f32) (w : Vec Ideal S512x128 .f32) (v v' : Vec Ideal S1024x1 .i32) (r : Fin 1024) (e e' : Fin 128)
    (h : v (ix2 r 0) = BitVec.ofNat 32 e.val) (h' : v' (ix2 r 0) = BitVec.ofNat 32 e'.val) (s : Fin 128 → EReal)
    (hs : s = score (fun k => x (ix2 r k)) fun k e => w (ix2 k e)) :
    k0_pay37 x w v v' (ix2 r 0) = Ideal.div (prob s e) (prob s e + prob s e') := by
  pointwise [k0_pay37, k0_pay36]
  rw [pay34_apply x w v r e h, pay35_apply x w v' r e' h', ← hs]

theorem pay38_apply (x : Vec Ideal S1024x512 .f32) (w : Vec Ideal S512x128 .f32) (v v' : Vec Ideal S1024x1 .i32) (r : Fin 1024) (e e' : Fin 128)
    (h : v (ix2 r 0) = BitVec.ofNat 32 e.val) (h' : v' (ix2 r 0) = BitVec.ofNat 32 e'.val) (s : Fin 128 → EReal)
    (hs : s = score (fun k => x (ix2 r k)) fun k e => w (ix2 k e)) :
    k0_pay38 x w v v' (ix2 r 0) = Ideal.div (prob s e') (prob s e + prob s e') := by
  pointwise [k0_pay38, k0_pay36]
  rw [pay34_apply x w v r e h, pay35_apply x w v' r e' h', ← hs]

/-! ## The stored forms -/

theorem pay24_apply (a : Vec Ideal S1x1024x1024 .bf16) (c : Vec Ideal S1024x1024 .f32) (r l : Fin 1024) :
    k0_pay24 a c (ix3 0 r l) = a (ix3 0 r l) + c (ix2 r l) := by
  pointwise [k0_pay24]

theorem pay1_apply (a : Vec Ideal S1x1024x1024 .bf16) (r l : Fin 1024) : k0_pay1 a (ix2 r l) = a (ix3 0 r l) := by
  pointwise [k0_pay1]

theorem pay43_apply (x : Vec Ideal S1024x512 .f32) (r : Fin 1024) (k : Fin 512) : k0_pay43 (k0_pay32 x) (ix3 0 r k) = x (ix2 r k) := by
  pointwise [k0_pay43, k0_pay42, k0_pay32]

theorem pay27_apply (w : Vec Ideal S1x512x1024 .f32) (k : Fin 512) (l : Fin 1024) : k0_pay27 w (ix3 0 k l) = w (ix3 0 k l) := by
  pointwise [k0_pay27]

theorem pay28_apply (w : Vec Ideal S1x512x1024 .f32) (k : Fin 512) (l : Fin 1024) : k0_pay28 w (ix3 0 k l) = w (ix3 0 k l) := by
  pointwise [k0_pay28]

theorem pay29_apply (w : Vec Ideal S1x512x1024 .f32) (k : Fin 512) (l : Fin 1024) : k0_pay29 w (ix3 0 k l) = w (ix3 0 k l) := by
  pointwise [k0_pay29]

theorem pay31_apply (w : Vec Ideal S1x512x1024 .f32) (k : Fin 512) (l : Fin 1024) : k0_pay31 (k0_pay30 w) (ix3 0 k l) = w (ix3 0 k l) := by
  pointwise [k0_pay31, k0_pay30]

theorem pay39_apply (v : Vec Ideal S1024x1 .i32) (r : Fin 1024) : (k0_pay39 v : FVec Ideal S1024x1 .f32) (ix2 r 0) = (((v (ix2 r 0)).toInt : ℝ) : EReal) := by
  pointwise [k0_pay39]
  rfl

end Cert.KernelIdeal.MixProof
-- ==== Proof.Ideal.Sum.lean ====
/-
The kernel's result at an index: around the ring every device adds its experts' share, so that the last
accumulator holds the sum over all experts.
-/
module

public import proofs.«01_k».proof.Proof.Ideal.Value
public import proofs.«01_k».proof.Proof.Ideal.Run

@[expose] public section

set_option maxRecDepth 20000

noncomputable section

namespace Cert.KernelIdeal.MixProof

open Cert.KernelIdeal Cert.KernelIdeal.Gen Cert.KernelIdeal.RingProof
open Idealize.ShloMosaic Idealize.ShloMosaic.TcCoe
open scoped BigOperators

/-! ## Whose expert it is -/

theorem num_wd (d : Fin 32) : (Scalar.addi (Scalar.muli (wd d) 4#32) 0#32).toInt = 4 * d.val ∧ (Scalar.addi (Scalar.muli (wd d) 4#32) 1#32).toInt = 4 * d.val + 1
    ∧ (Scalar.addi (Scalar.muli (wd d) 4#32) 2#32).toInt = 4 * d.val + 2 ∧ (Scalar.addi (Scalar.muli (wd d) 4#32) 3#32).toInt = 4 * d.val + 3 := by
  revert d; decide

/-- An expert's number. -/
def nm (e : Fin 128) : EReal := (((e.val : ℤ) : ℝ) : EReal)

theorem nm_inj {e e' : Fin 128} (h : nm e = nm e') : e = e' := by
  have := EReal.coe_injective h
  exact Fin.ext (by exact_mod_cast this)

theorem toInt_word (e : Fin 128) : (((BitVec.ofNat 32 e.val).toInt : ℝ) : EReal) = nm e := by
  have : (BitVec.ofNat 32 e.val).toInt = (e.val : ℤ) := by revert e; decide
  rw [this]; rfl

theorem num0 (d : Fin 32) : num (wd d) 0#32 = nm (exp4 d 0) := by
  unfold num nm; rw [(num_wd d).1]; rfl
theorem num1 (d : Fin 32) : num (wd d) 1#32 = nm (exp4 d 1) := by
  unfold num nm; rw [(num_wd d).2.1]; rfl
theorem num2 (d : Fin 32) : num (wd d) 2#32 = nm (exp4 d 2) := by
  unfold num nm; rw [(num_wd d).2.2.1]; rfl
theorem num3 (d : Fin 32) : num (wd d) 3#32 = nm (exp4 d 3) := by
  unfold num nm; rw [(num_wd d).2.2.2]; rfl

/-- A device's share as the sum over its four experts. -/
theorem share_sum (d : Fin 32) (a b i j : EReal) (y : Fin 128 → EReal) :
    share (wd d) a b i j (y (exp4 d 0)) (y (exp4 d 1)) (y (exp4 d 2)) (y (exp4 d 3))
      = ∑ q : Fin 4, (a * hit i (nm (exp4 d q)) + b * hit j (nm (exp4 d q))) * y (exp4 d q) := by
  unfold share
  rw [Fin.sum_univ_four, num0, num1, num2, num3]

/-! ## The inputs -/

variable (m : (ℓ : Loc nD τ sig) → Buf (Elt Ideal) ℓ)

def tok (c : Dev nD) : Vec Ideal S1024x512 .f32 := m ((c : Thread nD τ).loc main_arg0)
def rou (c : Dev nD) : Vec Ideal S512x128 .f32 := m ((c : Thread nD τ).loc main_arg1)
def tab (c : Dev nD) : Vec Ideal S1024x2 .i32 := m ((c : Thread nD τ).loc main_arg2)
def wts (c : Dev nD) : Vec Ideal S4x512x1024 .f32 := m ((c : Thread nD τ).loc main_arg3)

theorem vx_apply (c : Dev nD) (r : Fin 1024) (k : Fin 512) : vx m c (ix2 r k) = tok m c (ix2 r k) := by
  unfold vx; rw [xIn_eq]
  refine congrArg (tok m c) (funext fun a => Fin.ext ?_)
  fin_cases a
  · show 0 + 1 * r.val = r.val; omega
  · show 0 + 1 * k.val = k.val; omega
theorem vrw_apply (c : Dev nD) (k : Fin 512) (e : Fin 128) : vrw m c (ix2 k e) = rou m c (ix2 k e) := by
  unfold vrw; rw [rwIn_eq]
  refine congrArg (rou m c) (funext fun a => Fin.ext ?_)
  fin_cases a
  · show 0 + 1 * k.val = k.val; omega
  · show 0 + 1 * e.val = e.val; omega
theorem vi0_apply (c : Dev nD) (r : Fin 1024) : vi0 m c (ix2 r 0) = tab m c (ix2 r 0) := by
  unfold vi0; rw [ixIn_eq]
  refine congrArg (tab m c) (funext fun a => Fin.ext ?_)
  fin_cases a
  · show 0 + 1 * r.val = r.val; omega
  · rfl
theorem vi1_apply (c : Dev nD) (r : Fin 1024) : vi1 m c (ix2 r 0) = tab m c (ix2 r 1) := by
  unfold vi1; rw [ixIn_eq]
  refine congrArg (tab m c) (funext fun a => Fin.ext ?_)
  fin_cases a
  · show 0 + 1 * r.val = r.val; omega
  · rfl
theorem eb0_apply (c : Dev nD) (k : Fin 512) (l : Fin 1024) : eb0 m c (ix3 0 k l) = wts m c (ix3 0 k l) := by
  unfold eb0; rw [pay27_apply]; unfold vw0; rw [ewIn_eq]
  refine congrArg (wts m c) (funext fun a => Fin.ext ?_)
  fin_cases a
  · rfl
  · show 0 + 1 * k.val = k.val; omega
  · show 0 + 1 * l.val = l.val; omega
theorem eb1_apply (c : Dev nD) (k : Fin 512) (l : Fin 1024) : eb1 m c (ix3 0 k l) = wts m c (ix3 1 k l) := by
  unfold eb1; rw [pay28_apply]; unfold vw1; rw [ewIn_eq]
  refine congrArg (wts m c) (funext fun a => Fin.ext ?_)
  fin_cases a
  · rfl
  · show 0 + 1 * k.val = k.val; omega
  · show 0 + 1 * l.val = l.val; omega
theorem eb2_apply (c : Dev nD) (k : Fin 512) (l : Fin 1024) : eb2 m c (ix3 0 k l) = wts m c (ix3 2 k l) := by
  unfold eb2; rw [pay29_apply]; unfold vw2; rw [ewIn_eq]
  refine congrArg (wts m c) (funext fun a => Fin.ext ?_)
  fin_cases a
  · rfl
  · show 0 + 1 * k.val = k.val; omega
  · show 0 + 1 * l.val = l.val; omega
theorem eb3_apply (c : Dev nD) (k : Fin 512) (l : Fin 1024) : eb3 m c (ix3 0 k l) = wts m c (ix3 3 k l) := by
  unfold eb3; rw [pay31_apply]; unfold vw3; rw [ewIn_eq]
  refine congrArg (wts m c) (funext fun a => Fin.ext ?_)
  fin_cases a
  · rfl
  · show 0 + 1 * k.val = k.val; omega
  · show 0 + 1 * l.val = l.val; omega

/-- Token `r` of device `c`, and every expert's product with it at column `l`. -/
def row (c : Dev nD) (r : Fin 1024) (k : Fin 512) : EReal := tok m c (ix2 r k)
def rmat (c : Dev nD) (k : Fin 512) (e : Fin 128) : EReal := rou m c (ix2 k e)
def emat (l : Fin 1024) (e : Fin 128) (k : Fin 512) : EReal :=
  wts m (⟨e.val / 4, by omega⟩ : Fin 32) (ix3 (⟨e.val % 4, by omega⟩ : Fin 4) k l)
def prods (c : Dev nD) (r l : Fin 1024) (e : Fin 128) : EReal := ∑ k : Fin 512, row m c r k * emat m l e k

theorem emat_exp4 (l : Fin 1024) (d : Fin 32) (j : Fin 4) (k : Fin 512) : emat m l (exp4 d j) k = wts m d (ix3 j k l) := by
  unfold emat
  have h1 : (⟨(exp4 d j).val / 4, by have := (exp4 d j).isLt; omega⟩ : Fin 32) = d := Fin.ext (by show (4 * d.val + j.val) / 4 = d.val; omega)
  have h2 : (⟨(exp4 d j).val % 4, by omega⟩ : Fin 4) = j := Fin.ext (by show (4 * d.val + j.val) % 4 = j.val; omega)
  rw [h1, h2]

/-- What device `d` adds for token `r` of device `c` at column `l`. -/
def adds (d c : Dev nD) (r l : Fin 1024) : EReal :=
  ∑ q : Fin 4, (ga m c (ix2 r 0) * hit (ia m c (ix2 r 0)) (nm (exp4 d q))
    + gb m c (ix2 r 0) * hit (((vi1 m c (ix2 r 0)).toInt : ℝ) : EReal) (nm (exp4 d q))) * prods m c r l (exp4 d q)

theorem prods0 (d c : Dev nD) (r l : Fin 1024) : prod (row m c r) (eb0 m d) l = prods m c r l (exp4 d 0) := by
  unfold prod prods; exact Finset.sum_congr rfl fun k _ => by rw [eb0_apply, emat_exp4]
theorem prods1 (d c : Dev nD) (r l : Fin 1024) : prod (row m c r) (eb1 m d) l = prods m c r l (exp4 d 1) := by
  unfold prod prods; exact Finset.sum_congr rfl fun k _ => by rw [eb1_apply, emat_exp4]
theorem prods2 (d c : Dev nD) (r l : Fin 1024) : prod (row m c r) (eb2 m d) l = prods m c r l (exp4 d 2) := by
  unfold prod prods; exact Finset.sum_congr rfl fun k _ => by rw [eb2_apply, emat_exp4]
theorem prods3 (d c : Dev nD) (r l : Fin 1024) : prod (row m c r) (eb3 m d) l = prods m c r l (exp4 d 3) := by
  unfold prod prods; exact Finset.sum_congr rfl fun k _ => by rw [eb3_apply, emat_exp4]

theorem A0_apply (c : Dev nD) (r l : Fin 1024) : A0 m c (ix3 0 r l) = adds m c c r l := by
  unfold A0
  rw [own_apply, show (fun k => k0_pay32 (vx m c) (ix2 r k)) = row m c r from funext fun k => by
    rw [show k0_pay32 (vx m c) = vx m c from shapeCast_self _ _, vx_apply]; rfl, prods0, prods1, prods2, prods3, share_sum]
  rfl

theorem Ctr_apply (c : Dev nD) (h : ℕ) (r l : Fin 1024) : Ctr m c h (ix2 r l) = adds m c (back c h) r l := by
  unfold Ctr
  rw [ctrOf_apply]
  unfold X Mt
  rw [pay4_apply, pay5_apply, pay6_apply, pay7_apply, show (fun k => k0_pay43 (k0_pay32 (vx m (back c h))) (ix3 0 r k)) = row m (back c h) r from
    funext fun k => by rw [pay43_apply, vx_apply]; rfl, prods0, prods1, prods2, prods3, share_sum]
  rfl

theorem A_apply (h : ℕ) : ∀ (c : Dev nD) (r l : Fin 1024), A m h c (ix3 0 r l) = ∑ k ∈ Finset.range (h + 1), adds m (back c k) (back c h) r l := by
  induction h with
  | zero => intro c r l; rw [Finset.sum_range_one]; exact A0_apply m c r l
  | succ n ih =>
    intro c r l
    show k0_pay24 (A m n (prv c)) (Ctr m c (n + 1)) (ix3 0 r l) = _
    rw [pay24_apply, ih, Ctr_apply, Finset.sum_range_succ' (fun k => adds m (back c k) (back c (n + 1)) r l)]
    rfl

theorem back_all (c : Dev nD) : back (prv c) 31 = c := by revert c; decide

/-- **The kernel's result** at an index: the two experts' products weighted by the gates. -/
theorem outAt_apply (c : Dev nD) (r l : Fin 1024) (e0 e1 : Fin 128) (h0 : tab m c (ix2 r 0) = BitVec.ofNat 32 e0.val)
    (h1 : tab m c (ix2 r 1) = BitVec.ofNat 32 e1.val) :
    (outAt m c : FVec Ideal S1024x1024 .f32) (ix2 r l) = mix (score (row m c r) (rmat m c)) (prods m c r l) e0 e1 := by
  have hv0 : vi0 m c (ix2 r 0) = BitVec.ofNat 32 e0.val := (vi0_apply m c r).trans h0
  have hv1 : vi1 m c (ix2 r 0) = BitVec.ofNat 32 e1.val := (vi1_apply m c r).trans h1
  have hs : score (row m c r) (rmat m c) = score (fun k => vx m c (ix2 r k)) fun k e => vrw m c (ix2 k e) :=
    congrArg₂ score (funext fun k => (vx_apply m c r k).symm) (funext fun k => funext fun e => (vrw_apply m c k e).symm)
  show k0_pay1 (A m 31 (prv c)) (ix2 r l) = _
  rw [pay1_apply, A_apply, back_all, sum_back (prv c) (fun d => adds m d c r l)]
  unfold adds
  rw [sum_exp4 (fun e => (ga m c (ix2 r 0) * hit (ia m c (ix2 r 0)) (nm e)
    + gb m c (ix2 r 0) * hit (((vi1 m c (ix2 r 0)).toInt : ℝ) : EReal) (nm e)) * prods m c r l e)]
  unfold ga gb ia
  rw [pay39_apply, hv0, hv1, toInt_word, toInt_word, pay37_apply _ _ _ _ r e0 e1 hv0 hv1 _ hs, pay38_apply _ _ _ _ r e0 e1 hv0 hv1 _ hs]
  refine (sum_experts _ _ (fun e => hit (nm e0) (nm e)) (fun e => hit (nm e1) (nm e)) (prods m c r l) e0 e1 ?_ (hit_self _) ?_ (hit_self _) ?_).trans rfl
  · rintro rfl; rfl
  · exact fun k hk => hit_of_ne fun h => hk (nm_inj h).symm
  · exact fun k hk => hit_of_ne fun h => hk (nm_inj h).symm

end Cert.KernelIdeal.MixProof
-- ==== Proof.Ideal.Reference.lean ====
/-
The reference's values at an index, over the extended reals.
-/
module

public import proofs.«01_k».proof.Proof.Ideal.Mix
public import proofs.«01_k».proof.Proof.Gen.ReferenceIdeal.Run
public import Idealize.ShloMosaic.Lib.Pointwise

@[expose] public section

set_option maxRecDepth 20000

noncomputable section

namespace Cert.ReferenceIdeal.MixProof

open Cert.ReferenceIdeal Cert.ReferenceIdeal.Gen
open Cert.KernelIdeal.MixProof (top prob score mix)
open Idealize.ShloMosaic Idealize.ShloMosaic.TcCoe
open scoped BigOperators

/-! ## The stages, over their arguments -/

variable (x : FVec Ideal S32768x512 .f32) (w : FVec Ideal S512x128 .f32) (t : IVec S32768x2 32) (E : FVec Ideal S128x512x1024 .f32)

def scores : FVec Ideal S32768x128 .f32 := Host.dotGeneral dot_S32768x512_S512x128_S32768x128_1_0_0_1_n_n none x w

def shifted : FVec Ideal S32768x128 .f32 :=
  Host.exp (subf (scores x w) (broadcastInDim S32768x128 ![0, 1] bcast_S32768x1_S32768x128_0_1 (broadcastInDim S32768x1 ![0] bcast_S32768_S32768x1_0
    (Host.reduce FloatOps.maximumf (scores x w) (constant S_ .f32 0xFF800000#32) reducesTo_S32768x128_S32768_d1 h_S_))))

def probs : FVec Ideal S32768x128 .f32 :=
  Host.divf (shifted x w) (broadcastInDim S32768x128 ![0, 1] bcast_S32768x1_S32768x128_0_1 (broadcastInDim S32768x1 ![0] bcast_S32768_S32768x1_0
    (Host.reduceAdd (shifted x w) (constant S_ .f32 0x00000000#32) reducesTo_S32768x128_S32768_d1 h_S_)))

/-- A column of words, a negative one moved up by `n`. -/
def wrap (n : BitVec 32) (v : IVec S32768 32) : IVec S32768x1 32 :=
  broadcastInDim S32768x1 ![0] bcast_S32768_S32768x1_0 (select (cmpi .slt v (broadcastInDim S32768 ![] bcast_S_S32768 (constantI S_ 32 0#32)))
    (addi v (broadcastInDim S32768 ![] bcast_S_S32768 (constantI S_ 32 n))) v)

def col0 : IVec S32768 32 := shapeCast _ (extractStridedSlice S32768x1 ![0, 0] t slices_S32768x2_S32768x1_0_0) shapeCasts_S32768x1_S32768
def col1 : IVec S32768 32 := shapeCast _ (extractStridedSlice S32768x1 ![0, 1] t slices_S32768x2_S32768x1_0_1) shapeCasts_S32768x1_S32768

/-- Every token's probability at the expert that `v` names for it. -/
def picked (v : IVec S32768 32) : FVec Ideal S32768 .f32 :=
  Host.gather gather_S32768x128_S32768x2_S32768_n_01_n_n_01_1_11 (probs x w)
    (concatenate S32768x2 1 [⟨S32768x1, wrap 32768#32 (iotaInDim S32768 32 0)⟩, ⟨S32768x1, wrap 128#32 v⟩] concatenates_S32768x1_S32768x1_S32768x2_d1)

/-- Every token's product with the expert that `v` names for it. -/
def product (v : IVec S32768 32) : FVec Ideal S32768x1024 .f32 :=
  Host.dotGeneral dot_S32768x512_S32768x512x1024_S32768x1024_1_1_n_2_0_0 none x
    (Host.gather gather_S128x512x1024_S32768x1_S32768x512x1024_12_0_n_n_0_1_15121024 E (wrap 128#32 v))

/-- A gate times a product. -/
def term (g : FVec Ideal S32768 .f32) (v : IVec S32768 32) : FVec Ideal S32768x1024 .f32 :=
  mulf (broadcastInDim S32768x1024 ![0, 1] bcast_S32768x1_S32768x1024_0_1 (broadcastInDim S32768x1 ![0] bcast_S32768_S32768x1_0
    (Host.divf g (addf (picked x w (col0 t)) (picked x w (col1 t)))))) (product x E v)

def whole : FVec Ideal S32768x1024 .f32 := addf (term x w t E (picked x w (col0 t)) (col0 t)) (term x w t E (picked x w (col1 t)) (col1 t))

theorem res_eq (m : (ℓ : Loc nD τ sig) → Buf (Elt Ideal) ℓ) (c : Dev nD) :
    Value.res_main_v68 m c = whole (m ((c.tc : Thread nD τ).loc main_arg0)) (m ((c.tc : Thread nD τ).loc main_arg1))
      (m ((c.tc : Thread nD τ).loc main_arg2)) (m ((c.tc : Thread nD τ).loc main_arg3)) := rfl

/-! ## The indices -/

theorem col0_apply (r : Fin 32768) : col0 t (ix1 r) = t (ix2 r 0) := by pointwise [col0]
theorem col1_apply (r : Fin 32768) : col1 t (ix1 r) = t (ix2 r 1) := by pointwise [col1]

/-- A word that is not negative stays. -/
theorem wrap_apply (n : BitVec 32) (v : IVec S32768 32) (r : Fin 32768) (h : 0 ≤ (v (ix1 r)).toInt) : wrap n v (ix2 r 0) = v (ix1 r) := by
  pointwise [wrap]
  have : IntOp.cmpi CmpIPredicate.slt (v (ix1 r)) 0#32 = 0#1 := by
    show BitVec.ofBool ((v (ix1 r)).slt 0#32) = 0#1
    have : (v (ix1 r)).slt 0#32 = false := by
      rw [BitVec.slt_eq_decide]; simp only [decide_eq_false_iff_not, not_lt]; exact h
    rw [this]; rfl
  rw [this]; rfl

theorem word_toInt {n : ℕ} (h : n < 2 ^ 31) : (BitVec.ofNat 32 n).toInt = n := by
  rw [BitVec.toInt_eq_toNat_of_lt] <;> simp only [BitVec.toNat_ofNat] <;> omega

/-! ## The two gathers -/

theorem gather_pair (p : FVec Ideal S32768x128 .f32) (idx : IVec S32768x2 32) (r : Fin 32768) (e : Fin 128)
    (h0 : idx (ix2 r 0) = BitVec.ofNat 32 r.val) (h1 : idx (ix2 r 1) = BitVec.ofNat 32 e.val) :
    Host.gather gather_S32768x128_S32768x2_S32768_n_01_n_n_01_1_11 p idx (ix1 r) = p (ix2 r e) := by
  unfold Host.gather
  refine congrArg p (funext fun a => Fin.ext ?_)
  show GatherDims.start _ (ix1 r) idx a + GatherDims.batchCoord _ (ix1 r) a + GatherDims.offCoord _ (ix1 r) a = _
  rw [GatherDims.batchCoord_eq_zero _ _ _ List.not_mem_nil, GatherDims.offCoord_eq_zero _ _ _ (fun h => ((GatherDims.mem_sKept _ _).mp h).1 (by
    revert a; decide))]
  unfold GatherDims.start
  fin_cases a
  · rw [dif_pos (by decide)]
    have hs : GatherDims.siIdx gather_S32768x128_S32768x2_S32768_n_01_n_n_01_1_11 (ix1 r) ⟨0, by decide⟩ = ix2 r 0 := by
      funext b; fin_cases b <;> rfl
    show min (idx (GatherDims.siIdx gather_S32768x128_S32768x2_S32768_n_01_n_n_01_1_11 (ix1 r) ⟨0, _⟩)).toInt.toNat (32768 - 1) + 0 + 0 = r.val
    rw [hs, h0, word_toInt (by omega)]
    omega
  · rw [dif_pos (by decide)]
    have hs : GatherDims.siIdx gather_S32768x128_S32768x2_S32768_n_01_n_n_01_1_11 (ix1 r) ⟨1, by decide⟩ = ix2 r 1 := by
      funext b; fin_cases b <;> rfl
    show min (idx (GatherDims.siIdx gather_S32768x128_S32768x2_S32768_n_01_n_n_01_1_11 (ix1 r) ⟨1, _⟩)).toInt.toNat (128 - 1) + 0 + 0 = e.val
    rw [hs, h1, word_toInt (by omega)]
    omega

theorem gather_expert (idx : IVec S32768x1 32) (r : Fin 32768) (k : Fin 512) (l : Fin 1024) (e : Fin 128)
    (h : idx (ix2 r 0) = BitVec.ofNat 32 e.val) :
    Host.gather gather_S128x512x1024_S32768x1_S32768x512x1024_12_0_n_n_0_1_15121024 E idx (ix3 r k l) = E (ix3 e k l) := by
  unfold Host.gather
  refine congrArg E (funext fun a => Fin.ext ?_)
  show GatherDims.start _ (ix3 r k l) idx a + GatherDims.batchCoord _ (ix3 r k l) a + GatherDims.offCoord _ (ix3 r k l) a = _
  rw [GatherDims.batchCoord_eq_zero _ _ _ List.not_mem_nil]
  fin_cases a
  · rw [GatherDims.offCoord_eq_zero _ _ _ (fun h => ((GatherDims.mem_sKept _ _).mp h).1 (by decide))]
    unfold GatherDims.start
    rw [dif_pos (by decide)]
    have hs : GatherDims.siIdx gather_S128x512x1024_S32768x1_S32768x512x1024_12_0_n_n_0_1_15121024 (ix3 r k l) ⟨0, by decide⟩ = ix2 r 0 := by
      funext b; fin_cases b <;> rfl
    show min (idx (GatherDims.siIdx gather_S128x512x1024_S32768x1_S32768x512x1024_12_0_n_n_0_1_15121024 (ix3 r k l) ⟨0, _⟩)).toInt.toNat (128 - 1) + 0 + 0 = e.val
    rw [hs, h, word_toInt (by omega)]
    omega
  · unfold GatherDims.start
    rw [dif_neg (by decide)]
    show 0 + 0 + k.val = k.val
    omega
  · unfold GatherDims.start
    rw [dif_neg (by decide)]
    show 0 + 0 + l.val = l.val
    omega

/-! ## The values -/

/-- A token's scores. -/
def srow (r : Fin 32768) : Fin 128 → EReal := score (fun k => x (ix2 r k)) fun k e => w (ix2 k e)

theorem scores_apply (r : Fin 32768) (e : Fin 128) : scores x w (ix2 r e) = srow x w r e := by
  pointwise [scores]; rfl

theorem shifted_apply (r : Fin 32768) (e : Fin 128) : shifted x w (ix2 r e) = Ideal.exp (srow x w r e - top (srow x w r)) := by
  pointwise [shifted]
  simp only [scores_apply]
  rfl

theorem probs_apply (r : Fin 32768) (e : Fin 128) : probs x w (ix2 r e) = prob (srow x w r) e := by
  pointwise [probs]
  simp only [shifted_apply]
  rfl

theorem picked_apply (v : IVec S32768 32) (r : Fin 32768) (e : Fin 128) (h : v (ix1 r) = BitVec.ofNat 32 e.val) :
    picked x w v (ix1 r) = prob (srow x w r) e := by
  unfold picked
  rw [gather_pair _ _ r e ?_ ?_, probs_apply]
  · pointwise
    rw [wrap_apply _ _ _ (by pointwise; rw [word_toInt (by omega)]; omega)]
    pointwise
  · pointwise
    rw [wrap_apply _ _ _ (by rw [h, word_toInt (by omega)]; omega), h]

theorem product_apply (v : IVec S32768 32) (r : Fin 32768) (l : Fin 1024) (e : Fin 128) (h : v (ix1 r) = BitVec.ofNat 32 e.val) :
    product x E v (ix2 r l) = ∑ k : Fin 512, x (ix2 r k) * E (ix3 e k l) := by
  pointwise [product]
  refine Finset.sum_congr rfl fun k _ => ?_
  rw [gather_expert E _ r k l e (by rw [wrap_apply _ _ _ (by rw [h, word_toInt (by omega)]; omega), h])]

/-- **The reference's result** at an index: the two experts' products weighted by the gates. -/
theorem whole_apply (r : Fin 32768) (l : Fin 1024) (e0 e1 : Fin 128) (h0 : t (ix2 r 0) = BitVec.ofNat 32 e0.val) (h1 : t (ix2 r 1) = BitVec.ofNat 32 e1.val) :
    whole x w t E (ix2 r l) = mix (srow x w r) (fun e => ∑ k : Fin 512, x (ix2 r k) * E (ix3 e k l)) e0 e1 := by
  have k0 : col0 t (ix1 r) = BitVec.ofNat 32 e0.val := (col0_apply t r).trans h0
  have k1 : col1 t (ix1 r) = BitVec.ofNat 32 e1.val := (col1_apply t r).trans h1
  pointwise [whole, term]
  rw [picked_apply x w _ r e0 k0, picked_apply x w _ r e1 k1, product_apply x E _ r l e0 k0, product_apply x E _ r l e1 k1]
  rfl

end Cert.ReferenceIdeal.MixProof
-- ==== Proof.Ideal.Equal.lean ====
/-
Device by device, the kernel's result is its block of the reference's.
-/
module

public import proofs.«01_k».proof.Defs
public import proofs.«01_k».proof.Proof.Ideal.Sum
public import proofs.«01_k».proof.Proof.Ideal.Reference

@[expose] public section

set_option maxRecDepth 20000

noncomputable section

namespace Cert.KernelIdeal.MixProof

open Cert.KernelIdeal Cert.KernelIdeal.Gen Cert.KernelIdeal.RingProof
open Idealize.ShloMosaic Idealize.ShloMosaic.TcCoe
open scoped BigOperators

instance facts_pre : Cert.Pre_experts_named_KernelIdeal.Facts := ⟨by decide⟩
instance facts_pre_ref : Cert.Pre_experts_named_ReferenceIdeal.Facts := ⟨by decide⟩

/-- A word between 0 and 127 is an expert's. -/
theorem word_named (b : BitVec 32) (h0 : 0 ≤ b.toInt) (h1 : b.toInt < 128) : ∃ e : Fin 128, b = BitVec.ofNat 32 e.val := by
  have hb : b.toNat < 128 := by
    have := b.isLt
    rw [BitVec.toInt_eq_toNat_cond] at h0 h1
    split at h0 <;> split at h1 <;> omega
  exact ⟨⟨b.toNat, hb⟩, (BitVec.ofNat_toNat 32 b ▸ by simp : b = BitVec.ofNat 32 b.toNat)⟩

theorem bounds_of_andi (b : BitVec 32) (h : IntOp.andi (IntOp.cmpi CmpIPredicate.sge b 0#32) (IntOp.cmpi CmpIPredicate.slt b 128#32) = 1#1) :
    0 ≤ b.toInt ∧ b.toInt < 128 := by
  change BitVec.ofBool ((0#32).sle b) &&& BitVec.ofBool (b.slt 128#32) = 1#1 at h
  rw [BitVec.sle_eq_decide, BitVec.slt_eq_decide] at h
  by_cases h0 : (0#32).toInt ≤ b.toInt
  · by_cases h1 : b.toInt < (128#32).toInt
    · exact ⟨h0, h1⟩
    · rw [decide_eq_true h0, decide_eq_false h1] at h; exact absurd h (by decide)
  · rw [decide_eq_false h0] at h
    by_cases h1 : b.toInt < (128#32).toInt
    · rw [decide_eq_true h1] at h; exact absurd h (by decide)
    · rw [decide_eq_false h1] at h; exact absurd h (by decide)

/-- Under the precondition every word of a device's table names an expert. -/
theorem named (a0 : FVec Ideal S1024x512 .f32) (a1 : FVec Ideal S512x128 .f32) (a2 : IVec S1024x2 32) (a3 : FVec Ideal S4x512x1024 .f32)
    (h : Cert.Pre_experts_named_KernelIdeal.fn (F := Ideal) a0 a1 a2 a3 = fun _ => 1#1) (r : Fin 1024) (j : Fin 2) :
    ∃ e : Fin 128, a2 (ix2 r j) = BitVec.ofNat 32 e.val := by
  have := congrFun h (ix2 r j)
  pointwise [Cert.Pre_experts_named_KernelIdeal.fn] at this
  exact word_named _ (bounds_of_andi _ this).1 (bounds_of_andi _ this).2

variable (m : (ℓ : Loc nD τ sig) → Buf (Elt Ideal) ℓ)

theorem block_eq (x : FVec Ideal ⟨2, ![32768, 512]⟩ .f32) (w : FVec Ideal S512x128 .f32) (t : IVec ⟨2, ![32768, 2]⟩ 32)
    (E : FVec Ideal ⟨3, ![128, 512, 1024]⟩ .f32)
    (hx : ∀ c : Dev nD, tok m c = Layout.block ⟨2, ![1024, 512]⟩ ⟨2, ![32768, 512]⟩ 0 32 c x) (hw : ∀ c, rou m c = w)
    (ht : ∀ c : Dev nD, tab m c = Layout.block ⟨2, ![1024, 2]⟩ ⟨2, ![32768, 2]⟩ 0 32 c t)
    (hE : ∀ c : Dev nD, wts m c = Layout.block ⟨3, ![4, 512, 1024]⟩ ⟨3, ![128, 512, 1024]⟩ 0 32 c E)
    (hn : ∀ (c : Dev nD) (r : Fin 1024) (j : Fin 2), ∃ e : Fin 128, tab m c (ix2 r j) = BitVec.ofNat 32 e.val) (c : Dev nD) :
    (outAt m c : FVec Ideal S1024x1024 .f32)
      = Layout.block ⟨2, ![1024, 1024]⟩ ⟨2, ![32768, 1024]⟩ 0 32 c (Cert.ReferenceIdeal.MixProof.whole x w t E) := by
  funext i
  obtain ⟨r, l, rfl⟩ : ∃ (r : Fin 1024) (l : Fin 1024), i = ix2 r l := ⟨i 0, i 1, eq_ix2 i⟩
  obtain ⟨e0, h0⟩ := hn c r 0
  obtain ⟨e1, h1⟩ := hn c r 1
  let R : Fin 32768 := ⟨c.val * 1024 + r.val, by have := c.isLt; have := r.isLt; change c.val < 32 at *; omega⟩
  have ix : ∀ k : Fin 512, tok m c (ix2 r k) = x (ix2 R k) := fun k => by
    rw [hx]; exact congrArg x (funext fun a => by fin_cases a <;> rfl)
  have it : ∀ j : Fin 2, tab m c (ix2 r j) = t (ix2 R j) := fun j => by
    rw [ht]; exact congrArg t (funext fun a => by fin_cases a <;> rfl)
  have iE : ∀ (e : Fin 128) (k : Fin 512), emat m l e k = E (ix3 e k l) := fun e k => by
    unfold emat
    rw [hE]
    refine congrArg E (funext fun a => ?_)
    fin_cases a
    · refine Fin.ext ?_
      show e.val / 4 * 4 + e.val % 4 = e.val
      omega
    · rfl
    · rfl
  rw [outAt_apply m c r l e0 e1 h0 h1, Layout.block_apply,
    show (Layout.Tiles.idx (by decide : Layout.Tiles ⟨2, ![1024, 1024]⟩ ⟨2, ![32768, 1024]⟩ 0 32) c (ix2 r l)) = ix2 R l from
      funext fun a => by fin_cases a <;> rfl,
    Cert.ReferenceIdeal.MixProof.whole_apply x w t E R l e0 e1 ((it 0).symm.trans h0) ((it 1).symm.trans h1)]
  have es : score (row m c r) (rmat m c) = Cert.ReferenceIdeal.MixProof.srow x w R :=
    congrArg₂ score (funext ix) (funext fun k => funext fun e => by unfold rmat; rw [hw])
  have ep : prods m c r l = fun e => ∑ k : Fin 512, x (ix2 R k) * E (ix3 e k l) :=
    funext fun e => Finset.sum_congr rfl fun k _ => congrArg₂ (· * ·) (ix k) (iE e k)
  rw [es, ep]

end Cert.KernelIdeal.MixProof
-- ==== Proof.lean ====
/-
The proof of `Cert.Claim`.

`Proof/Ideal` holds the run of the kernel over the ideal reals, `Proof/Bits` the same text over the bit-exact floats: the
ring's protocol (`Ring`), the rules of a hop (`Steps`, `Mem`, `Hop`, `Even`, `Odd`, `Trip`), the body before and after the
loop (`Regions`, `Start`, `Finish`, `Body`), what the launch deals (`Deal`, `Launch`) and what the run leaves (`Run`).

The values are in `Proof/Ideal`: the mathematics of one output element (`Mix`), the kernel's operations at an index
(`Value`), its result at an index (`Sum`), the reference's (`Reference`), and their equality block by block (`Equal`).
-/
module

public import proofs.«01_k».proof.Defs
public import proofs.«01_k».proof.Proof.Bits.Run
public import proofs.«01_k».proof.Proof.Ideal.Run
public import proofs.«01_k».proof.Proof.Ideal.Equal
public import proofs.«01_k».proof.Proof.Gen.ReferenceIdeal.Run
public import Idealize.ShloMosaic.Adequacy
public import Idealize.ShloMosaic.Init

@[expose] public section

noncomputable section

namespace Cert.Proof

open Idealize.ShloMosaic Idealize.ShloMosaic.TcCoe

theorem quiescent_k : Cert.quiescent_Kernel := fun m ρ _ => Cert.Kernel.RingProof.run_frame (F := Bits) m ρ
theorem quiescent_ki : Cert.quiescent_KernelIdeal := fun m ρ _ => Cert.KernelIdeal.RingProof.run_frame (F := Ideal) m ρ
theorem quiescent_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem equal : Cert.algebraic_KernelIdeal_ReferenceIdeal_pre_experts_named_KernelIdeal := fun m g m' g' hpre hin =>
  ⟨Cert.ReferenceIdeal.Value.res_main_v68 m' 0,
    (θ_run Cert.KernelIdeal.defs _ _).mono (fun r h c => ⟨(h c).1.trans (Cert.KernelIdeal.MixProof.block_eq m _ _ _ _ (fun c => (hin c).1) (fun c => (hin c).2.1)
      (fun c => (hin c).2.2.1) (fun c => (hin c).2.2.2) (fun c => Cert.KernelIdeal.MixProof.named _ _ _ _ (hpre c)) c), (h c).2⟩)
      (Cert.KernelIdeal.RingProof.run_value (F := Ideal) m g),
    (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, Cert.KernelIdeal.MixProof.facts_pre,
    Cert.KernelIdeal.MixProof.facts_pre_ref, quiescent_k, quiescent_ki, fun m g _ => quiescent_ki m g trivial, quiescent_ri,
    fun m g _ => quiescent_ri m g trivial, trivial, equal⟩

end Cert.Proof

end
